-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16777216 : Shape := ⟨1, ![16777216]⟩
abbrev S11 : Shape := ⟨1, ![11]⟩
abbrev S2097152 : Shape := ⟨1, ![2097152]⟩
abbrev S1 : Shape := ⟨1, ![1]⟩
abbrev S11x16 : Shape := ⟨2, ![11, 16]⟩
abbrev S176 : Shape := ⟨1, ![176]⟩
abbrev S4194304 : Shape := ⟨1, ![4194304]⟩
abbrev S16384 : Shape := ⟨1, ![16384]⟩
abbrev S_ : Shape := ⟨0, ![]⟩
abbrev S16 : Shape := ⟨1, ![16]⟩

abbrev nBuf : Table → Nat
  | .hbm => 7
  | .local .tc .vmem => 8
  | .local .tc .smem => 1
  | .local .scVector .vmem => 5
  | _ => 0

abbrev bufTy : (tb : Table) → Fin (nBuf tb) → BufTy
  | .hbm, ⟨0, _⟩ => ⟨S16777216, .f32⟩
  | .hbm, ⟨1, _⟩ => ⟨S11, .f32⟩
  | .hbm, ⟨2, _⟩ => ⟨S16777216, .i32⟩
  | .hbm, ⟨3, _⟩ => ⟨S11x16, .f32⟩
  | .hbm, ⟨4, _⟩ => ⟨S176, .f32⟩
  | .hbm, ⟨5, _⟩ => ⟨S4194304, .i32⟩
  | .hbm, ⟨6, _⟩ => ⟨S16777216, .i32⟩
  | .local .tc .vmem, ⟨0, _⟩ => ⟨S2097152, .f32⟩
  | .local .tc .vmem, ⟨1, _⟩ => ⟨S2097152, .f32⟩
  | .local .tc .vmem, ⟨2, _⟩ => ⟨S2097152, .i32⟩
  | .local .tc .vmem, ⟨3, _⟩ => ⟨S2097152, .i32⟩
  | .local .tc .vmem, ⟨4, _⟩ => ⟨S2097152, .i32⟩
  | .local .tc .vmem, ⟨5, _⟩ => ⟨S2097152, .i32⟩
  | .local .tc .vmem, ⟨6, _⟩ => ⟨S2097152, .i32⟩
  | .local .tc .vmem, ⟨7, _⟩ => ⟨S2097152, .i32⟩
  | .local .tc .smem, ⟨0, _⟩ => ⟨S11, .f32⟩
  | .local .scVector .vmem, ⟨0, _⟩ => ⟨S176, .f32⟩
  | .local .scVector .vmem, ⟨1, _⟩ => ⟨S16384, .f32⟩
  | .local .scVector .vmem, ⟨2, _⟩ => ⟨S16384, .f32⟩
  | .local .scVector .vmem, ⟨3, _⟩ => ⟨S16384, .i32⟩
  | .local .scVector .vmem, ⟨4, _⟩ => ⟨S16384, .i32⟩
  | _, _ => ⟨S16777216, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v2_scv : Ref sig .scVector := ⟨.hbm, 4, rfl⟩
abbrev main_v3_scv : Ref sig .scVector := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc2_sem0_0 : DmaSem sig := 10
abbrev cc2_sem0_1 : DmaSem sig := 11
abbrev cc2_sem1_0 : DmaSem sig := 12
abbrev cc2_sem1_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c2_i32 : BitVec 32 := 2#32
  let v0 : BitVec 32 := Scalar.addi c2_i32 arg0
  let c0_i32 : BitVec 32 := 0#32
  ![v0.toNat]

def cc0_transform_2 (i : grid0.Coords) : Fin 1 → Nat :=
  let arg0 : BitVec 32 := BitVec.ofNat 32 (i 0).val
  let c2_i32 : BitVec 32 := 2#32
  let v0 : BitVec 32 := Scalar.addi c2_i32 arg0
  let c0_i32 : BitVec 32 := 0#32
  ![v0.toNat]

abbrev stage0_0 : Fin 1 → Memref sig .tc .smem S11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2097152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2097152 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v14 : BitVec 32 := Scalar.addi v2 c0_i32
  ![v14.toNat]
@[reducible] def k1_t1_loop : Scf.Loop 32 :=
  let c0_i32_0 : BitVec 32 := 0#32
  let c4_i32 : BitVec 32 := 4#32
  let v20 : BitVec 32 := Scalar.addi c0_i32_0 c4_i32
  let c1_i32 : BitVec 32 := 1#32
  ⟨c0_i32_0, v20, c1_i32⟩
def k1_off2 (i : grid1.Coords) (k1_t1 : Fin k1_t1_loop.trips) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let v29 : BitVec 32 := Scalar.addi v28 c0_i32_4
  let c16384_i32_5 : BitVec 32 := 16384#32
  let v30 : BitVec 32 := Scalar.muli v29 c16384_i32_5
  let v31 : BitVec 32 := Scalar.addi v2 v30
  ![v31.toNat]
def k1_cond1 (k1_t1 : Fin k1_t1_loop.trips) : BitVec 1 :=
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c0_i32_4 : BitVec 32 := 0#32
  let v29 : BitVec 32 := Scalar.addi v28 c0_i32_4
  let c2_i32_6 : BitVec 32 := 2#32
  let v34 : BitVec 1 := Scalar.cmpi .sge v29 c2_i32_6
  let v35 : BitVec 32 := Scalar.extui v34
  let c0_i32_7 : BitVec 32 := 0#32
  let v36 : BitVec 1 := Scalar.cmpi .ne v35 c0_i32_7
  v36

def k1_off3 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c0_i32_4 : BitVec 32 := 0#32
  let v29 : BitVec 32 := Scalar.addi v28 c0_i32_4
  let c16384_i32_5 : BitVec 32 := 16384#32
  let v30 : BitVec 32 := Scalar.muli v29 c16384_i32_5
  let v31 : BitVec 32 := Scalar.addi v2 v30
  let c32768_i32 : BitVec 32 := 32768#32
  let v59 : BitVec 32 := Scalar.subi v31 c32768_i32
  ![v59.toNat]
@[reducible] def k1_t2_loop : Scf.Loop 32 :=
  let c0_i32_8 : BitVec 32 := 0#32
  let c256_i32 : BitVec 32 := 256#32
  let v37 : BitVec 32 := Scalar.addi c0_i32_8 c256_i32
  let c1_i32_9 : BitVec 32 := 1#32
  ⟨c0_i32_8, v37, c1_i32_9⟩
def k1_off4 (k1_t2 : Fin k1_t2_loop.trips) (c0_i32_27 : BitVec 32) : Fin 1 → Nat :=
  let c0_i32_25 : BitVec 32 := 0#32
  let c0_i32_8 : BitVec 32 := 0#32
  let c1_i32_9 : BitVec 32 := 1#32
  let arg15 : BitVec 32 := Scf.iv c0_i32_8 c1_i32_9 k1_t2
  let c1_i32_24 : BitVec 32 := 1#32
  let v59 : BitVec 32 := Scalar.muli arg15 c1_i32_24
  let v60 : BitVec 32 := Scalar.addi c0_i32_25 v59
  let c4_i32_26 : BitVec 32 := 4#32
  let v61 : BitVec 32 := Scalar.muli v60 c4_i32_26
  let v62 : BitVec 32 := Scalar.addi v61 c0_i32_27
  let c16_i32 : BitVec 32 := 16#32
  let v63 : BitVec 32 := Scalar.muli v62 c16_i32
  let v64 : Index := Scalar.indexCast v63
  ![v64.toNat]
def k1_off5 (i : grid1.Coords) (k1_t1 : Fin k1_t1_loop.trips) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let v29 : BitVec 32 := Scalar.addi v28 c0_i32_4
  let c16384_i32_5 : BitVec 32 := 16384#32
  let v30 : BitVec 32 := Scalar.muli v29 c16384_i32_5
  let v31 : BitVec 32 := Scalar.addi v2 v30
  ![v31.toNat]
def k1_cond2 (k1_t1 : Fin k1_t1_loop.trips) : BitVec 1 :=
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c0_i32_4 : BitVec 32 := 0#32
  let v29 : BitVec 32 := Scalar.addi v28 c0_i32_4
  let c2_i32_11 : BitVec 32 := 2#32
  let v40 : BitVec 32 := Scalar.addi v29 c2_i32_11
  let c8_i32 : BitVec 32 := 8#32
  let v41 : BitVec 1 := Scalar.cmpi .slt v40 c8_i32
  let v42 : BitVec 32 := Scalar.extui v41
  let c0_i32_12 : BitVec 32 := 0#32
  let v43 : BitVec 1 := Scalar.cmpi .ne v42 c0_i32_12
  v43

def k1_off6 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c0_i32_4 : BitVec 32 := 0#32
  let v29 : BitVec 32 := Scalar.addi v28 c0_i32_4
  let c16384_i32_5 : BitVec 32 := 16384#32
  let v30 : BitVec 32 := Scalar.muli v29 c16384_i32_5
  let v31 : BitVec 32 := Scalar.addi v2 v30
  let c32768_i32 : BitVec 32 := 32768#32
  let v59 : BitVec 32 := Scalar.addi v31 c32768_i32
  ![v59.toNat]
def k1_cond3 (k1_t1 : Fin k1_t1_loop.trips) : BitVec 1 :=
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c1_i32_13 : BitVec 32 := 1#32
  let v44 : BitVec 32 := Scalar.addi v28 c1_i32_13
  let c2_i32_15 : BitVec 32 := 2#32
  let v49 : BitVec 1 := Scalar.cmpi .sge v44 c2_i32_15
  let v50 : BitVec 32 := Scalar.extui v49
  let c0_i32_16 : BitVec 32 := 0#32
  let v51 : BitVec 1 := Scalar.cmpi .ne v50 c0_i32_16
  v51

def k1_off7 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c1_i32_13 : BitVec 32 := 1#32
  let v44 : BitVec 32 := Scalar.addi v28 c1_i32_13
  let c16384_i32_14 : BitVec 32 := 16384#32
  let v45 : BitVec 32 := Scalar.muli v44 c16384_i32_14
  let v46 : BitVec 32 := Scalar.addi v2 v45
  let c32768_i32 : BitVec 32 := 32768#32
  let v59 : BitVec 32 := Scalar.subi v46 c32768_i32
  ![v59.toNat]
@[reducible] def k1_t3_loop : Scf.Loop 32 :=
  let c0_i32_17 : BitVec 32 := 0#32
  let c256_i32_18 : BitVec 32 := 256#32
  let v52 : BitVec 32 := Scalar.addi c0_i32_17 c256_i32_18
  let c1_i32_19 : BitVec 32 := 1#32
  ⟨c0_i32_17, v52, c1_i32_19⟩
def k1_off8 (k1_t3 : Fin k1_t3_loop.trips) (c0_i32_27 : BitVec 32) : Fin 1 → Nat :=
  let c0_i32_25 : BitVec 32 := 0#32
  let c0_i32_17 : BitVec 32 := 0#32
  let c1_i32_19 : BitVec 32 := 1#32
  let arg15 : BitVec 32 := Scf.iv c0_i32_17 c1_i32_19 k1_t3
  let c1_i32_24 : BitVec 32 := 1#32
  let v59 : BitVec 32 := Scalar.muli arg15 c1_i32_24
  let v60 : BitVec 32 := Scalar.addi c0_i32_25 v59
  let c4_i32_26 : BitVec 32 := 4#32
  let v61 : BitVec 32 := Scalar.muli v60 c4_i32_26
  let v62 : BitVec 32 := Scalar.addi v61 c0_i32_27
  let c16_i32 : BitVec 32 := 16#32
  let v63 : BitVec 32 := Scalar.muli v62 c16_i32
  let v64 : Index := Scalar.indexCast v63
  ![v64.toNat]
def k1_cond4 (k1_t1 : Fin k1_t1_loop.trips) : BitVec 1 :=
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c1_i32_13 : BitVec 32 := 1#32
  let v44 : BitVec 32 := Scalar.addi v28 c1_i32_13
  let c2_i32_21 : BitVec 32 := 2#32
  let v55 : BitVec 32 := Scalar.addi v44 c2_i32_21
  let c8_i32_22 : BitVec 32 := 8#32
  let v56 : BitVec 1 := Scalar.cmpi .slt v55 c8_i32_22
  let v57 : BitVec 32 := Scalar.extui v56
  let c0_i32_23 : BitVec 32 := 0#32
  let v58 : BitVec 1 := Scalar.cmpi .ne v57 c0_i32_23
  v58

def k1_off9 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_3 : BitVec 32 := 0#32
  let c0_i32_0 : BitVec 32 := 0#32
  let c1_i32 : BitVec 32 := 1#32
  let arg14 : BitVec 32 := Scf.iv c0_i32_0 c1_i32 k1_t1
  let c2_i32_2 : BitVec 32 := 2#32
  let v27 : BitVec 32 := Scalar.muli arg14 c2_i32_2
  let v28 : BitVec 32 := Scalar.addi c0_i32_3 v27
  let c1_i32_13 : BitVec 32 := 1#32
  let v44 : BitVec 32 := Scalar.addi v28 c1_i32_13
  let c16384_i32_14 : BitVec 32 := 16384#32
  let v45 : BitVec 32 := Scalar.muli v44 c16384_i32_14
  let v46 : BitVec 32 := Scalar.addi v2 v45
  let c32768_i32 : BitVec 32 := 32768#32
  let v59 : BitVec 32 := Scalar.addi v46 c32768_i32
  ![v59.toNat]
def k1_off10 (i : grid1.Coords) (c98304_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v21 : BitVec 32 := Scalar.addi v2 c98304_i32
  ![v21.toNat]
abbrev grid2 : Pipeline.Grid := ⟨1, ![2], ![false]⟩

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S2097152 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2097152 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S11 : Shape := ⟨1, ![11]⟩
abbrev S11x1 : Shape := ⟨2, ![11, 1]⟩
abbrev S1x16777216 : Shape := ⟨2, ![1, 16777216]⟩
abbrev S11x16777216 : Shape := ⟨2, ![11, 16777216]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S11, .f32⟩
  | .hbm, ⟨2, _⟩ => ⟨S11x1, .f32⟩
  | .hbm, ⟨3, _⟩ => ⟨S1x16777216, .f32⟩
  | .hbm, ⟨4, _⟩ => ⟨S11x16777216, .f32⟩
  | .hbm, ⟨5, _⟩ => ⟨S11x16777216, .f32⟩
  | .hbm, ⟨6, _⟩ => ⟨S11x16777216, .i1⟩
  | .hbm, ⟨7, _⟩ => ⟨S11x16777216, .i32⟩
  | .hbm, ⟨8, _⟩ => ⟨S_, .i32⟩
  | .hbm, ⟨9, _⟩ => ⟨S16777216, .i32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Setup.lean ====
/-
  The kernel as the launch theorem reads it: its labels, its SparseCore configuration, the algebra the proof owns
  (the handshakes' rounds, the two pipelines' rounds, the local transfers' counters) and the arrays by location.
  Everything here is over any float values `F`, so that the run is proved once for the kernel as compiled and for
  its reading over the reals.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof.Count

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the pipelines' own layer. -/
abbrev ΛP : Labels := Pipeline.Sig Λ₀ (Fin 2) fun p => (pcfgs (F := F) p).Adm
/-- The one SparseCore call's configuration. -/
abbrev K : SparseCore.Cfg τ sig (ΛP (F := F)) 1 := sc (F := F)
theorem nSub_zero : (K (F := F)).nSub 0 = 16 := rfl
theorem nCore_zero : (K (F := F)).nCore 0 = 2 := rfl
/-- The two pipelines' entries over the kernels' bodies. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake cells lie apart and are nobody's scratch. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

/-- Where the handshakes' rounds live, -/
abbrev EH : Emb UH (MT nD τ sig (HIx 1) (Elt F) ℕ UU ℕ) := embL
/-- and the pipelines'. -/
def EP : Emb UPipe (MT nD τ sig (HIx 1) (Elt F) ℕ UU ℕ) :=
  (Emb.inl : Emb UPipe (UPipe × Counters)).trans (embR (A := UH) (B := UPipe × Counters))

instance EP_landsIn : (EP : Emb UPipe 𝕄).LandsIn (upEmb : UEmb _ 𝕄) := by unfold EP; infer_instance

/-! ## The arrays by location -/

abbrev xLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v0
abbrev wLoc (d : Dev nD) : Loc nD τ sig := (SparseCore.T d).loc main_v1
abbrev rLoc (d : Dev nD) : Loc nD τ sig := (SparseCore.T d).loc main_v2
abbrev sLoc (d : Dev nD) : Loc nD τ sig := (SparseCore.T d).loc main_v3
abbrev oLoc (d : Dev nD) : Loc nD τ sig := (SparseCore.T d).loc main_v4

end Cert.Proof.Count

end
-- ==== Proof.Value.lean ====
/-
  What the kernel counts: for one score and the eleven thresholds, the number of thresholds below it, as a 32-bit
  word summed in the programs' order. The vector subcores' sixteen lanes and the TensorCore's block both hold it.
-/
module

public import proofs.«01_k».proof.Proof.Gen.KernelIdeal
public import proofs.«01_k».proof.Proof.Gen.KernelIdeal.Skeleton

@[expose] public section

noncomputable section

namespace Cert.Proof.Count

open Cert.KernelIdeal Cert.KernelIdeal.Gen
open Idealize.ShloMosaic

variable {F : FTy → Type} [FloatOps F]

/-- One threshold's contribution: one where the score lies above it, else zero. -/
def hit (x t : F .f32) : BitVec 32 := (FloatOps.cmpf .ogt x t).setWidth 32

/-- The number of thresholds below a score, summed from zero, the lowest-numbered threshold first. -/
def cnt (t : Fin 11 → F .f32) (x : F .f32) : BitVec 32 :=
  0#32 + hit x (t 0) + hit x (t 1) + hit x (t 2) + hit x (t 3) + hit x (t 4) + hit x (t 5) + hit x (t 6) + hit x (t 7)
    + hit x (t 8) + hit x (t 9) + hit x (t 10)

/-- A chosen one or zero is the comparison's bit widened. -/
theorem select_one_zero (c : BitVec 1) : (if c = 1 then 1#32 else 0#32) = c.setWidth 32 := by
  revert c; decide

/-- Sixteen lanes of scores counted against eleven vectors of thresholds. -/
def lanes (v3 v4 v5 v6 v7 v8 v9 v10 v11 v12 v13 : Vec F S16 .f32) (x : Vec F S16 .f32) : IVec S16 32 :=
  fun l => cnt (fun j => match j with
    | 0 => v3 l | 1 => v4 l | 2 => v5 l | 3 => v6 l | 4 => v7 l | 5 => v8 l | 6 => v9 l | 7 => v10 l | 8 => v11 l
    | 9 => v12 l | 10 => v13 l) (x l)

variable (v3 v4 v5 v6 v7 v8 v9 v10 v11 v12 v13 : Vec F S16 .f32) (x : Vec F S16 .f32)

/-! Each of the trip's four groups, for the first buffer pair and for the second: however the printed text is cut, the
    group's counts are `lanes`. -/

theorem lanes_a0 : k1_pay3 v10 v11 v12 v13 x (k1_pay1 v3 v4 v5 v6 v7 v8 x) (k1_pay2 v9 x) 1#32 0#32
    = lanes v3 v4 v5 v6 v7 v8 v9 v10 v11 v12 v13 x := by
  funext l
  simp only [lanes, cnt, hit, ← select_one_zero]
  rfl
theorem lanes_a1 : k1_pay10 (k1_pay6 v6 v7 v8 v9 v10 v11 v12 x (k1_pay4 v3 v4 x) (k1_pay5 v5 x)) (k1_pay7 v13 x) k1_pay8 k1_pay9
    = lanes v3 v4 v5 v6 v7 v8 v9 v10 v11 v12 v13 x := by
  funext l
  simp only [lanes, cnt, hit, ← select_one_zero]
  rfl
theorem lanes_a2 : k1_pay13 v10 v11 v12 v13 x (k1_pay11 v3 v4 v5 v6 v7 v8 x) (k1_pay12 v9 x) 1#32 0#32
    = lanes v3 v4 v5 v6 v7 v8 v9 v10 v11 v12 v13 x := by
  funext l
  simp only [lanes, cnt, hit, ← select_one_zero]
  rfl
theorem lanes_a3 : k1_pay39 (k1_pay16 v6 v7 v8 v9 v10 v11 v12 x (k1_pay14 v3 v4 x) (k1_pay15 v5 x)) (k1_pay17 v13 x) k1_pay18 k1_pay19
    = lanes v3 v4 v5 v6 v7 v8 v9 v10 v11 v12 v13 x := by
  funext l
  simp only [lanes, cnt, hit, ← select_one_zero]
  rfl

theorem lanes_b0 : k1_pay22 v10 v11 v12 v13 x (k1_pay20 v3 v4 v5 v6 v7 v8 x) (k1_pay21 v9 x) 1#32 0#32
    = lanes v3 v4 v5 v6 v7 v8 v9 v10 v11 v12 v13 x := by
  funext l
  simp only [lanes, cnt, hit, ← select_one_zero]
  rfl
theorem lanes_b1 : k1_pay29 (k1_pay25 v6 v7 v8 v9 v10 v11 v12 x (k1_pay23 v3 v4 x) (k1_pay24 v5 x)) (k1_pay26 v13 x) k1_pay27 k1_pay28
    = lanes v3 v4 v5 v6 v7 v8 v9 v10 v11 v12 v13 x := by
  funext l
  simp only [lanes, cnt, hit, ← select_one_zero]
  rfl
theorem lanes_b2 : k1_pay32 v10 v11 v12 v13 x (k1_pay30 v3 v4 v5 v6 v7 v8 x) (k1_pay31 v9 x) 1#32 0#32
    = lanes v3 v4 v5 v6 v7 v8 v9 v10 v11 v12 v13 x := by
  funext l
  simp only [lanes, cnt, hit, ← select_one_zero]
  rfl
theorem lanes_b3 : k1_pay40 (k1_pay35 v6 v7 v8 v9 v10 v11 v12 x (k1_pay33 v3 v4 x) (k1_pay34 v5 x)) (k1_pay36 v13 x) k1_pay37 k1_pay38
    = lanes v3 v4 v5 v6 v7 v8 v9 v10 v11 v12 v13 x := by
  funext l
  simp only [lanes, cnt, hit, ← select_one_zero]
  rfl

end Cert.Proof.Count

end
-- ==== Proof.Inner.lean ====
/-
  The subcore's inner loop: 256 trips of four sixteen-lane groups, each group's scores loaded, counted against the
  eleven thresholds and stored at the same place of the outgoing buffer. Before trip `n` the outgoing buffer's first
  `64 n` words are the counts of the incoming buffer's scores. The two buffer pairs run the same text.
-/
module

public import proofs.«01_k».proof.Proof.Setup
public import proofs.«01_k».proof.Proof.Value

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The SparseCore and the vector subcore of a point of the launch grid, and the thread there. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

variable [FloatOps F]

section Inner

variable (d : Dev nD) (L : grid1.Coords)

/-- Eleven threshold vectors, each one threshold in every lane. -/
def Splat (t : Fin 11 → F .f32) (v3 v4 v5 v6 v7 v8 v9 v10 v11 v12 v13 : Vec F S16 .f32) : Prop :=
  ∀ l, (fun j : Fin 11 => match j with
    | 0 => v3 l | 1 => v4 l | 2 => v5 l | 3 => v6 l | 4 => v7 l | 5 => v8 l | 6 => v9 l | 7 => v10 l | 8 => v11 l
    | 9 => v12 l | 10 => v13 l) = t

/-- Before trip `n` of the first pair's loop. -/
def invA (t : Fin 11 → F .f32) (fx : Buf (Elt F) ((thr d L).loc cc1_scratch1)) (n : Nat) (_ : Unit) : sProp 𝕄 :=
  iprop(((Memref.whole cc1_scratch1 : Memref sig .scVector .vmem S16384 .f32).view.loc (thr d L) ↦{fullShare} fx)
    ∗ ∃ fo : Buf (Elt F) ((thr d L).loc cc1_scratch3), ⌜∀ y : S16384.Idx, (y 0).val < 64 * n → fo y = cnt t (fx y)⌝
      ∗ ((Memref.whole cc1_scratch3 : Memref sig .scVector .vmem S16384 .i32).view.loc (thr d L) ↦{fullShare} fo))

variable (v2 : BitVec 32) (v3 v4 v5 v6 v7 v8 v9 v10 v11 v12 v13 : Vec F S16 .f32) (c0 c1 : BitVec 32) (k1 : Fin k1_t1_loop.trips)

abbrev bodyA : Fin k1_t2_loop.trips → Unit → Prog (TpuEff nD τ sig (Elt F) Λ₀ (.scVector ((L 0).castLE hcore1) ((L 1).castLE hsub1))) Unit :=
  k1_t2_body (F := F) L (Memref.whole main_arg0_scv : Memref sig .scVector .hbm S16777216 .f32) (Memref.isWhole_whole _) (Memref.whole main_v2_scv : Memref sig .scVector .hbm S176 .f32) (Memref.isWhole_whole _) (Memref.whole main_v3_scv : Memref sig .scVector .hbm S4194304 .i32) (Memref.isWhole_whole _) (Memref.whole cc1_scratch0 : Memref sig .scVector .vmem S176 .f32) (Memref.isWhole_whole _)
    (Memref.whole cc1_scratch1 : Memref sig .scVector .vmem S16384 .f32) (Memref.isWhole_whole _) (Memref.whole cc1_scratch2 : Memref sig .scVector .vmem S16384 .f32) (Memref.isWhole_whole _) (Memref.whole cc1_scratch3 : Memref sig .scVector .vmem S16384 .i32) (Memref.isWhole_whole _) (Memref.whole cc1_scratch4 : Memref sig .scVector .vmem S16384 .i32) (Memref.isWhole_whole _)
    cc1_scratch5 cc1_scratch6 cc1_scratch7 cc1_scratch8 cc1_scoped0 v2 v3 v4 v5 v6 v7 v8 v9 v10 v11 v12 v13 c0 c1 k1

/-- Four groups of sixteen from `64 n` on, each holding the counts there, take "the first `64 n` words are counts" to
    the next trip. -/
theorem fill {sig' : RefSig} {κ : Kind} {sp : Space} (v : View sig' κ sp S16384 .i32) (fo : v.ty.Contents (Elt F)) (G : S16384.Idx → BitVec 32)
    (n : Nat) (hfo : ∀ y : S16384.Idx, (y 0).val < 64 * n → v.read (Elt F) fo y = G y)
    (o0 o1 o2 o3 : Fin 1 → Nat) (h0 : o0 = ![64 * n + 16 * 0]) (h1 : o1 = ![64 * n + 16 * 1]) (h2 : o2 = ![64 * n + 16 * 2]) (h3 : o3 = ![64 * n + 16 * 3])
    (b0 : ∀ a, o0 a + S16.size a ≤ S16384.size a) (b1 : ∀ a, o1 a + S16.size a ≤ S16384.size a)
    (b2 : ∀ a, o2 a + S16.size a ≤ S16384.size a) (b3 : ∀ a, o3 a + S16.size a ≤ S16384.size a)
    (p0 p1 p2 p3 : S16.Idx → BitVec 32)
    (e0 : ∀ x : S16.Idx, p0 x = G ((Rect.unit (s := S16384) o0 S16.size b0).emb x)) (e1 : ∀ x : S16.Idx, p1 x = G ((Rect.unit (s := S16384) o1 S16.size b1).emb x))
    (e2 : ∀ x : S16.Idx, p2 x = G ((Rect.unit (s := S16384) o2 S16.size b2).emb x)) (e3 : ∀ x : S16.Idx, p3 x = G ((Rect.unit (s := S16384) o3 S16.size b3).emb x))
    (y : S16384.Idx) (hy : (y 0).val < 64 * (n + 1)) :
    v.read (Elt F) (v.writes (Elt F) fo [⟨Rect.unit (s := S16384) o3 S16.size b3, p3⟩, ⟨Rect.unit (s := S16384) o2 S16.size b2, p2⟩,
      ⟨Rect.unit (s := S16384) o1 S16.size b1, p1⟩, ⟨Rect.unit (s := S16384) o0 S16.size b0, p0⟩]) y = G y := by
  have mem : ∀ (c : Nat) (o : Fin 1 → Nat) (h : o = ![64 * n + 16 * c]) (b : ∀ a, o a + S16.size a ≤ S16384.size a),
      y ∈ (Rect.unit (s := S16384) o S16.size b).set ↔ 64 * n + 16 * c ≤ (y 0).val ∧ (y 0).val < 64 * n + 16 * c + 16 := by
    intro c o h b
    subst h
    rw [Rect.mem_set_unit]
    exact Fin.forall_fin_one
  by_cases hlt : (y 0).val < 64 * n
  · rw [View.read_writes_apply_of_forall_not_mem]
    · exact hfo y hlt
    · intro p hp
      simp only [List.mem_cons, List.not_mem_nil, or_false] at hp
      rcases hp with rfl | rfl | rfl | rfl
      · rw [mem 3 _ h3]; omega
      · rw [mem 2 _ h2]; omega
      · rw [mem 1 _ h1]; omega
      · rw [mem 0 _ h0]; omega
  · refine View.read_writes_apply_of_pieces v fo G _ ?_ y ?_
    · intro p hp
      simp only [List.mem_cons, List.not_mem_nil, or_false] at hp
      rcases hp with rfl | rfl | rfl | rfl
      · exact e3
      · exact e2
      · exact e1
      · exact e0
    · rcases Nat.lt_or_ge (y 0).val (64 * n + 16) with h | h
      · exact ⟨⟨_, p0⟩, (.tail _ (.tail _ (.tail _ (.head _)))), (mem 0 _ h0 b0).mpr (by omega)⟩
      rcases Nat.lt_or_ge (y 0).val (64 * n + 32) with h' | h'
      · exact ⟨⟨_, p1⟩, (.tail _ (.tail _ (.head _))), (mem 1 _ h1 b1).mpr (by omega)⟩
      rcases Nat.lt_or_ge (y 0).val (64 * n + 48) with h'' | h''
      · exact ⟨⟨_, p2⟩, (.tail _ (.head _)), (mem 2 _ h2 b2).mpr (by omega)⟩
      · exact ⟨⟨_, p3⟩, .head _, (mem 3 _ h3 b3).mpr (by omega)⟩

theorem stepA (t : Fin 11 → F .f32) (ht : Splat t v3 v4 v5 v6 v7 v8 v9 v10 v11 v12 v13)
    (fx : Buf (Elt F) ((thr d L).loc cc1_scratch1)) (k : Fin k1_t2_loop.trips) (u : Unit) :
    invA d L t fx k.val u ⊢ wp frame (wpE (defs₀ (F := F)) 𝒱₀ (thr d L) none) Set.univ
      (bodyA L v2 v3 v4 v5 v6 v7 v8 v9 v10 v11 v12 v13 c0 c1 k1 k u) (invA d L t fx (k.val + 1)) := by
  unfold invA bodyA k1_t2_body
  sl_open_parts
  iintro ⟨Hi, %fo, %hfo, Ho⟩
  sl_exec
  sl_step
  isplitl [Hi]; · iexact Hi
  iexists _; isplitr
  swap; · iexact Ho
  ipureintro
  intro y hy
  rw [lanes_a0, lanes_a1, lanes_a2, lanes_a3]
  exact fill (F := F) (Memref.whole cc1_scratch3 : Memref sig .scVector .vmem S16384 .i32).view fo (fun y => cnt t (fx y)) k.val hfo _ _ _ _
    (k1_off4_eq k 0) (k1_off4_eq k 1) (k1_off4_eq k 2) (k1_off4_eq k 3) _ _ _ _ _ _ _ _
    (fun x => congrArg (fun t' => cnt t' _) (ht x)) (fun x => congrArg (fun t' => cnt t' _) (ht x))
    (fun x => congrArg (fun t' => cnt t' _) (ht x)) (fun x => congrArg (fun t' => cnt t' _) (ht x)) y hy

/-- Before trip `n` of the second pair's loop. -/
def invB (t : Fin 11 → F .f32) (fx : Buf (Elt F) ((thr d L).loc cc1_scratch2)) (n : Nat) (_ : Unit) : sProp 𝕄 :=
  iprop(((Memref.whole cc1_scratch2 : Memref sig .scVector .vmem S16384 .f32).view.loc (thr d L) ↦{fullShare} fx)
    ∗ ∃ fo : Buf (Elt F) ((thr d L).loc cc1_scratch4), ⌜∀ y : S16384.Idx, (y 0).val < 64 * n → fo y = cnt t (fx y)⌝
      ∗ ((Memref.whole cc1_scratch4 : Memref sig .scVector .vmem S16384 .i32).view.loc (thr d L) ↦{fullShare} fo))

abbrev bodyB : Fin k1_t3_loop.trips → Unit → Prog (TpuEff nD τ sig (Elt F) Λ₀ (.scVector ((L 0).castLE hcore1) ((L 1).castLE hsub1))) Unit :=
  k1_t3_body (F := F) L (Memref.whole main_arg0_scv : Memref sig .scVector .hbm S16777216 .f32) (Memref.isWhole_whole _) (Memref.whole main_v2_scv : Memref sig .scVector .hbm S176 .f32) (Memref.isWhole_whole _) (Memref.whole main_v3_scv : Memref sig .scVector .hbm S4194304 .i32) (Memref.isWhole_whole _) (Memref.whole cc1_scratch0 : Memref sig .scVector .vmem S176 .f32) (Memref.isWhole_whole _)
    (Memref.whole cc1_scratch1 : Memref sig .scVector .vmem S16384 .f32) (Memref.isWhole_whole _) (Memref.whole cc1_scratch2 : Memref sig .scVector .vmem S16384 .f32) (Memref.isWhole_whole _) (Memref.whole cc1_scratch3 : Memref sig .scVector .vmem S16384 .i32) (Memref.isWhole_whole _) (Memref.whole cc1_scratch4 : Memref sig .scVector .vmem S16384 .i32) (Memref.isWhole_whole _)
    cc1_scratch5 cc1_scratch6 cc1_scratch7 cc1_scratch8 cc1_scoped0 v2 v3 v4 v5 v6 v7 v8 v9 v10 v11 v12 v13 c0 c1 k1

theorem stepB (t : Fin 11 → F .f32) (ht : Splat t v3 v4 v5 v6 v7 v8 v9 v10 v11 v12 v13)
    (fx : Buf (Elt F) ((thr d L).loc cc1_scratch2)) (k : Fin k1_t3_loop.trips) (u : Unit) :
    invB d L t fx k.val u ⊢ wp frame (wpE (defs₀ (F := F)) 𝒱₀ (thr d L) none) Set.univ
      (bodyB L v2 v3 v4 v5 v6 v7 v8 v9 v10 v11 v12 v13 c0 c1 k1 k u) (invB d L t fx (k.val + 1)) := by
  unfold invB bodyB k1_t3_body
  sl_open_parts
  iintro ⟨Hi, %fo, %hfo, Ho⟩
  sl_exec
  sl_step
  isplitl [Hi]; · iexact Hi
  iexists _; isplitr
  swap; · iexact Ho
  ipureintro
  intro y hy
  rw [lanes_b0, lanes_b1, lanes_b2, lanes_b3]
  exact fill (F := F) (Memref.whole cc1_scratch4 : Memref sig .scVector .vmem S16384 .i32).view fo (fun y => cnt t (fx y)) k.val hfo _ _ _ _
    (k1_off8_eq k 0) (k1_off8_eq k 1) (k1_off8_eq k 2) (k1_off8_eq k 3) _ _ _ _ _ _ _ _
    (fun x => congrArg (fun t' => cnt t' _) (ht x)) (fun x => congrArg (fun t' => cnt t' _) (ht x))
    (fun x => congrArg (fun t' => cnt t' _) (ht x)) (fun x => congrArg (fun t' => cnt t' _) (ht x)) y hy

end Inner

end Cert.Proof.Count

end
-- ==== Proof.Pieces.lean ====
/-
  Chunk `n` of a subcore: its sixteen thousand scores, where they lie, their counts, and what the copies in and out
  leave.
-/
module

public import proofs.«01_k».proof.Proof.Setup
public import proofs.«01_k».proof.Proof.Value

@[expose] public section

noncomputable section

namespace Cert.Proof.Count

open Cert.KernelIdeal Cert.KernelIdeal.Gen

open Idealize.ShloMosaic

variable {F : FTy → Type} [FloatOps F]

/-- The elements of a line of `N` from `lo` up to `hi`. -/
def rng (N lo hi : Nat) : Finset (Shape.Idx ⟨1, ![N]⟩) := Finset.univ.filter fun y => lo ≤ (y 0).val ∧ (y 0).val < hi

theorem mem_rng {N lo hi : Nat} {y : Shape.Idx ⟨1, ![N]⟩} : y ∈ rng N lo hi ↔ lo ≤ (y 0).val ∧ (y 0).val < hi := by
  simp [rng]

theorem rng_union {N a b c : Nat} (h : a ≤ b) (h' : b ≤ c) : rng N a c = rng N a b ∪ rng N b c := by
  ext y; rw [Finset.mem_union, mem_rng, mem_rng, mem_rng]; omega

theorem rng_disjoint {N a b c e : Nat} (h : b ≤ c) : Disjoint (rng N a b) (rng N c e) := by
  rw [Finset.disjoint_left]; intro y; rw [mem_rng, mem_rng]; omega

/-- A unit rectangle of a line is such a range. -/
theorem unit_set {N n : Nat} (o : Fin 1 → Nat) (v : Nat) (h : o = ![v]) (b : ∀ a, o a + (⟨1, ![n]⟩ : Shape).size a ≤ (⟨1, ![N]⟩ : Shape).size a) :
    (Rect.unit (s := ⟨1, ![N]⟩) o (⟨1, ![n]⟩ : Shape).size b).set = rng N v (v + n) := by
  subst h
  ext y
  rw [Rect.mem_set_unit, mem_rng]
  exact Fin.forall_fin_one

/-- Where a subcore's scores start: sixteen-chunk strides over the subcores, eight over the two SparseCores. -/
def base (L : grid1.Coords) : Nat := 262144 * (L 1).val + 131072 * (L 0).val

theorem base_le (L : grid1.Coords) : base L + 131072 ≤ 4194304 := by
  have h0 : (L 0).val < 2 := (L 0).isLt
  have h1 : (L 1).val < 16 := (L 1).isLt
  unfold base; omega

/-- The position `v` of the scores. -/
def at' (v : Nat) : S16777216.Idx := fun
  | 0 => ⟨v % 16777216, Nat.mod_lt _ (by decide)⟩

/-- Chunk `n` of the scores `xm` of a subcore. -/
def X (L : grid1.Coords) (xm : S16777216.Idx → F .f32) (n : Nat) : S16384.Idx → F .f32 := fun z => xm (at' (base L + 16384 * n + (z 0).val))

/-- A slice of the scores at chunk `n`'s place reads chunk `n`. -/
theorem X_read (L : grid1.Coords) (xm : S16777216.Idx → F .f32) (n : Nat) (hn : n < 8) (o : Fin 1 → Nat) (h : o = ![base L + 16384 * n])
    (b : ∀ a, o a + S16384.size a ≤ S16777216.size a) :
    (fun z => xm ((Rect.unit (s := S16777216) o S16384.size b).emb z)) = X L xm n := by
  subst h
  funext z
  refine congrArg xm (funext fun a => Fin.ext ?_)
  have h0 : (z 0).val < 16384 := (z 0).isLt
  have := base_le L
  obtain rfl : a = 0 := Subsingleton.elim _ _
  show base L + 16384 * n + 1 * (z 0).val = (base L + 16384 * n + (z 0).val) % 16777216
  omega

/-- The counts of the scores `xm`, at the positions the SparseCores write. -/
def G3 (t : Fin 11 → F .f32) (xm : S16777216.Idx → F .f32) : S4194304.Idx → BitVec 32 := fun y => cnt t (xm (at' (y 0).val))

/-- At chunk `n`'s place they are chunk `n`'s counts. -/
theorem G3_emb (L : grid1.Coords) (t : Fin 11 → F .f32) (xm : S16777216.Idx → F .f32) (n : Nat) (o : Fin 1 → Nat) (h : o = ![base L + 16384 * n])
    (b : ∀ a, o a + S16384.size a ≤ S4194304.size a) (z : S16384.Idx) :
    cnt t (X L xm n z) = G3 t xm ((Rect.unit (s := S4194304) o S16384.size b).emb z) := by
  subst h
  show cnt t (xm (at' _)) = cnt t (xm (at' _))
  refine congrArg (fun v => cnt t (xm (at' v))) ?_
  show base L + 16384 * n + (z 0).val = base L + 16384 * n + 1 * (z 0).val
  omega

end Cert.Proof.Count

end
-- ==== Proof.Tile.lean ====
/-
  One vector subcore's task: the thresholds fetched, then eight chunks of its scores counted, the copies in and the copies
  out two deep on their own semaphores.
-/
module

public import proofs.«01_k».proof.Proof.Inner
public import proofs.«01_k».proof.Proof.Pieces

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

/-- The subcore's five copy semaphores out of its own. -/
theorem ownSems0_V :
    (ownSems0 (thr d L) : sProp 𝕄)
      = iprop(semVal (thr d L, SemLoc.dma cc1_scratch5.sem) 0 ∗ semVal (thr d L, SemLoc.dma cc1_scratch6.sem) 0 ∗ semVal (thr d L, SemLoc.dma cc1_scratch7.sem) 0 ∗ semVal (thr d L, SemLoc.dma cc1_scratch8.sem) 0 ∗ semVal (thr d L, SemLoc.dma cc1_scoped0.sem) 0
          ∗ bigSep ((((((ownCells (thr d L)).erase (thr d L, SemLoc.dma cc1_scratch5.sem)).erase (thr d L, SemLoc.dma cc1_scratch6.sem)).erase (thr d L, SemLoc.dma cc1_scratch7.sem)).erase (thr d L, SemLoc.dma cc1_scratch8.sem)).erase (thr d L, SemLoc.dma cc1_scoped0.sem)) fun g => semVal g 0) := by
  unfold SparseCore.Cfg.ownSems0
  rw [SparseCore.bigSep_erase' ((mem_ownCells (g := (thr d L, SemLoc.dma cc1_scratch5.sem))).mpr ⟨rfl, by show (SemLoc.dma cc1_scratch5.sem : SemLoc sig).isScoped .scVector = true; decide⟩),
    SparseCore.bigSep_erase' (Finset.mem_erase.mpr ⟨by simp; decide, (mem_ownCells (g := (thr d L, SemLoc.dma cc1_scratch6.sem))).mpr ⟨rfl, by show (SemLoc.dma cc1_scratch6.sem : SemLoc sig).isScoped .scVector = true; decide⟩⟩),
    SparseCore.bigSep_erase' (Finset.mem_erase.mpr ⟨by simp; decide, Finset.mem_erase.mpr ⟨by simp; decide, (mem_ownCells (g := (thr d L, SemLoc.dma cc1_scratch7.sem))).mpr ⟨rfl, by show (SemLoc.dma cc1_scratch7.sem : SemLoc sig).isScoped .scVector = true; decide⟩⟩⟩),
    SparseCore.bigSep_erase' (Finset.mem_erase.mpr ⟨by simp; decide, Finset.mem_erase.mpr ⟨by simp; decide, Finset.mem_erase.mpr ⟨by simp; decide, (mem_ownCells (g := (thr d L, SemLoc.dma cc1_scratch8.sem))).mpr ⟨rfl, by show (SemLoc.dma cc1_scratch8.sem : SemLoc sig).isScoped .scVector = true; decide⟩⟩⟩⟩),
    SparseCore.bigSep_erase' (Finset.mem_erase.mpr ⟨by simp; decide, Finset.mem_erase.mpr ⟨by simp; decide, Finset.mem_erase.mpr ⟨by simp; decide, Finset.mem_erase.mpr ⟨by simp; decide, (mem_ownCells (g := (thr d L, SemLoc.dma cc1_scoped0.sem))).mpr ⟨rfl, by show (SemLoc.dma cc1_scoped0.sem : SemLoc sig).isScoped .scVector = true; decide⟩⟩⟩⟩⟩)]

/-- Its five buffers out of its own. -/
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩)]

abbrev body : Prog (TpuEff nD τ sig (Elt F) Λ₀ (.scVector ((L 0).castLE hcore1) ((L 1).castLE hsub1))) PUnit :=
  cc1__sc_kernel_body (F := F) L (Memref.whole main_arg0_scv : Memref sig .scVector .hbm S16777216 .f32) (Memref.isWhole_whole _) (Memref.whole main_v2_scv : Memref sig .scVector .hbm S176 .f32) (Memref.isWhole_whole _) (Memref.whole main_v3_scv : Memref sig .scVector .hbm S4194304 .i32) (Memref.isWhole_whole _) (Memref.whole cc1_scratch0 : Memref sig .scVector .vmem S176 .f32) (Memref.isWhole_whole _)
    (Memref.whole cc1_scratch1 : Memref sig .scVector .vmem S16384 .f32) (Memref.isWhole_whole _) (Memref.whole cc1_scratch2 : Memref sig .scVector .vmem S16384 .f32) (Memref.isWhole_whole _) (Memref.whole cc1_scratch3 : Memref sig .scVector .vmem S16384 .i32) (Memref.isWhole_whole _) (Memref.whole cc1_scratch4 : Memref sig .scVector .vmem S16384 .i32) (Memref.isWhole_whole _)
    cc1_scratch5 cc1_scratch6 cc1_scratch7 cc1_scratch8 cc1_scoped0

variable (xm : Buf (Elt F) (xLoc d)) (rm : Buf (Elt F) (rLoc d)) (sm : Buf (Elt F) (sLoc d)) (t : Fin 11 → F .f32)
  (q0 q1 : PosShare TreeShare)

/-- The four copy semaphores by number. -/
abbrev cell5 : SemLoc sig := SemLoc.dma ⟨5, by decide⟩
abbrev cell6 : SemLoc sig := SemLoc.dma ⟨6, by decide⟩
abbrev cell7 : SemLoc sig := SemLoc.dma ⟨7, by decide⟩
abbrev cell8 : SemLoc sig := SemLoc.dma ⟨8, by decide⟩

/-- What a task is handed and hands back: a read share of the scores, one of the repeated thresholds, and its part of the
    counts at `f`. -/
abbrev tileRes (q : PosShare TreeShare) (f : Buf (Elt F) (sLoc d)) : sProp 𝕄 :=
  iprop((xLoc d ↦{q} xm) ∗ (rLoc d ↦{q} rm) ∗ (sLoc d ↦[rng 4194304 (base L) (base L + 131072)]{fullShare} f))

/-- The parts of the scores and of the counts a slice at `v` takes. -/
theorem set_xV (o : Fin 1 → Nat) (v : Nat) (h : o = ![v]) (b : ∀ a, o a + S16384.size a ≤ S16777216.size a) (hs : ∀ a, _) :
    ((Memref.whole main_arg0_scv : Memref sig .scVector .hbm S16777216 .f32).slice (Rect.unit (s := S16777216) o S16384.size b) hs).view.set = rng 16777216 v (v + 16384) :=
  (View.set_slice_whole _ _).trans (unit_set o v h b)
theorem set_sV (o : Fin 1 → Nat) (v : Nat) (h : o = ![v]) (b : ∀ a, o a + S16384.size a ≤ S4194304.size a) (hs : ∀ a, _) :
    ((Memref.whole main_v3_scv : Memref sig .scVector .hbm S4194304 .i32).slice (Rect.unit (s := S4194304) o S16384.size b) hs).view.set = rng 4194304 v (v + 16384) :=
  (View.set_slice_whole _ _).trans (unit_set o v h b)

/-- The counts' slice at `o` in the program's spelling; it is a range. -/
abbrev pieceAt (o : Fin 1 → Nat) (b : ∀ a, o a + S16384.size a ≤ S4194304.size a) (hs : ∀ a, (Rect.unit (s := S4194304) o S16384.size b).stride a = 1)
    (f : Buf (Elt F) (sLoc d)) : sProp 𝕄 :=
  iprop(((Memref.whole main_v3_scv : Memref sig .scVector .hbm S4194304 .i32).slice (Rect.unit (s := S4194304) o S16384.size b) hs).view.loc (thr d L)
    ↦[((Memref.whole main_v3_scv : Memref sig .scVector .hbm S4194304 .i32).slice (Rect.unit (s := S4194304) o S16384.size b) hs).view.set]{fullShare} f)
theorem pieceAt_eq (o : Fin 1 → Nat) (v : Nat) (h : o = ![v]) (b : ∀ a, _) (hs : ∀ a, _) (f : Buf (Elt F) (sLoc d)) :
    (pieceAt d L o b hs f : sProp 𝕄) = ((Memref.whole main_v3_scv : Memref sig .scVector .hbm S4194304 .i32).view.loc (thr d L) ↦[rng 4194304 v (v + 16384)]{fullShare} f) := by
  show ((Memref.whole main_v3_scv : Memref sig .scVector .hbm S4194304 .i32).view.loc (thr d L) ↦[((Memref.whole main_v3_scv : Memref sig .scVector .hbm S4194304 .i32).slice (Rect.unit (s := S4194304) o S16384.size b) hs).view.set]{fullShare} f : sProp 𝕄) = _
  rw [set_sV o v h]
/-- A view written all over reads what was written. -/
theorem read_writes_all {sig' : RefSig} {κ : Kind} {sp : Space} {s : Shape} {e : EltTy} (v : View sig' κ sp s e) (f : v.ty.Contents (Elt F))
    (w : s.Idx → Elt F e) (z : s.Idx) : v.read (Elt F) (v.writes (Elt F) f [⟨Rect.whole s, w⟩]) z = w z := by
  refine View.read_writes_apply_of_pieces v f w _ ?_ z ⟨_, .head _, Rect.set_whole s ▸ Finset.mem_univ z⟩
  intro p hp
  obtain rfl := List.mem_singleton.mp hp
  intro x
  exact congrArg w (Rect.emb_whole_apply s x).symm

/-- A view written all over with what a buffer holds under it holds that there. -/
theorem writes_all_eq {sig' : RefSig} {κ : Kind} {sp : Space} {s : Shape} {e : EltTy} (v : View sig' κ sp s e) (f g : v.ty.Contents (Elt F))
    (w : s.Idx → Elt F e) (hw : ∀ z, w z = v.read (Elt F) g z) : ∀ y ∈ v.set, v.writes (Elt F) f [⟨Rect.whole s, w⟩] y = g y := by
  intro y hy
  rw [View.set, Finset.mem_map] at hy
  obtain ⟨z, _, hz⟩ := hy
  subst hz
  have h := (read_writes_all v f w z).trans (hw z)
  rw [View.read_apply, View.read_apply] at h
  exact (cast_inj _).mp h
theorem read_slice_whole {sig' : RefSig} {κ : Kind} (b : Ref sig' κ) (r : Rect b.ty.shape) (g : b.ty.Contents (Elt F)) (z : r.shape.Idx) :
    ((View.whole b).slice r).read (Elt F) g z = g (r.emb z) := rfl

/-- What is copied over a slice is what the slice then holds. -/
theorem slice_writes (o : Fin 1 → Nat) (b : ∀ a, o a + S16384.size a ≤ S4194304.size a) (hs : ∀ a, _) (f g : Buf (Elt F) (sLoc d))
    (w : S16384.Idx → BitVec 32) (hw : ∀ z, w z = g ((Rect.unit (s := S4194304) o S16384.size b).emb z)) :
    ∀ y ∈ ((Memref.whole main_v3_scv : Memref sig .scVector .hbm S4194304 .i32).slice (Rect.unit (s := S4194304) o S16384.size b) hs).view.set,
      (((Memref.whole main_v3_scv : Memref sig .scVector .hbm S4194304 .i32).slice (Rect.unit (s := S4194304) o S16384.size b) hs).view.writes (Elt F) f
        [⟨Rect.whole (Rect.unit (s := S4194304) o S16384.size b).shape, w⟩]) y = g y :=
  writes_all_eq (F := F) ((View.whole main_v3_scv).slice (Rect.unit (s := S4194304) o S16384.size b)) f g w
    fun z => (hw z).trans (read_slice_whole (F := F) main_v3_scv (Rect.unit (s := S4194304) o S16384.size b) g z).symm

/-- Chunk `n` on its way into a buffer, and what stays of the share of the scores meanwhile. -/
abbrev flyA (n : Nat) : sProp 𝕄 :=
  Transfers.Flight countersEmb (thr d L) (cell5) (default : HIx 1) 524288
    iprop(((Memref.whole cc1_scratch1 : Memref sig .scVector .vmem S16384 .f32).view.loc (thr d L) ↦{fullShare} X L xm n)
      ∗ ((Memref.whole main_arg0_scv : Memref sig .scVector .hbm S16777216 .f32).view.loc (thr d L) ↦[rng 16777216 (base L + 16384 * n) (base L + 16384 * n + 16384)]{q0} xm))
abbrev flyB (n : Nat) : sProp 𝕄 :=
  Transfers.Flight countersEmb (thr d L) (cell6) (default : HIx 1) 524288
    iprop(((Memref.whole cc1_scratch2 : Memref sig .scVector .vmem S16384 .f32).view.loc (thr d L) ↦{fullShare} X L xm n)
      ∗ ((Memref.whole main_arg0_scv : Memref sig .scVector .hbm S16777216 .f32).view.loc (thr d L) ↦[rng 16777216 (base L + 16384 * n) (base L + 16384 * n + 16384)]{q1} xm))
abbrev restX (q : PosShare TreeShare) (n : Nat) : sProp 𝕄 :=
  iprop((Memref.whole main_arg0_scv : Memref sig .scVector .hbm S16777216 .f32).view.loc (thr d L) ↦[Finset.univ \ rng 16777216 (base L + 16384 * n) (base L + 16384 * n + 16384)]{q} xm)
/-- Chunk `n`'s counts on their way out of a buffer. -/
abbrev outA (n : Nat) : sProp 𝕄 :=
  Transfers.Flight countersEmb (thr d L) (cell7) (default : HIx 1) 524288
    iprop(((Memref.whole main_v3_scv : Memref sig .scVector .hbm S4194304 .i32).view.loc (thr d L) ↦[rng 4194304 (base L + 16384 * n) (base L + 16384 * n + 16384)]{fullShare} G3 t xm)
      ∗ ((Memref.whole cc1_scratch3 : Memref sig .scVector .vmem S16384 .i32).view.loc (thr d L) ↦{fullShare} fun z => cnt t (X L xm n z)))
abbrev outB (n : Nat) : sProp 𝕄 :=
  Transfers.Flight countersEmb (thr d L) (cell8) (default : HIx 1) 524288
    iprop(((Memref.whole main_v3_scv : Memref sig .scVector .hbm S4194304 .i32).view.loc (thr d L) ↦[rng 4194304 (base L + 16384 * n) (base L + 16384 * n + 16384)]{fullShare} G3 t xm)
      ∗ ((Memref.whole cc1_scratch4 : Memref sig .scVector .vmem S16384 .i32).view.loc (thr d L) ↦{fullShare} fun z => cnt t (X L xm n z)))

/-- The copies as the program starts them are these. -/
theorem flyA_intro (n : Nat) (hn : n < 8) (o : Fin 1 → Nat) (h : o = ![base L + 16384 * n]) (b : ∀ a, o a + S16384.size a ≤ S16777216.size a)
    (hs : ∀ a, _) (fi : Buf (Elt F) ((thr d L).loc cc1_scratch1)) (w : S16384.Idx → F .f32)
    (hw : w = fun z => xm ((Rect.unit (s := S16777216) o S16384.size b).emb z)) :
    iprop((Transfers.Flight countersEmb (thr d L) (cell5) (default : HIx 1) 524288
        iprop(((Memref.whole cc1_scratch1 : Memref sig .scVector .vmem S16384 .f32).view.loc (thr d L) ↦{fullShare} (Memref.whole cc1_scratch1 : Memref sig .scVector .vmem S16384 .f32).view.write (Elt F) fi w Finset.univ)
          ∗ ((Memref.whole main_arg0_scv : Memref sig .scVector .hbm S16777216 .f32).view.loc (thr d L) ↦[((Memref.whole main_arg0_scv : Memref sig .scVector .hbm S16777216 .f32).slice (Rect.unit (s := S16777216) o S16384.size b) hs).view.set]{q0} xm)))
      ∗ ((Memref.whole main_arg0_scv : Memref sig .scVector .hbm S16777216 .f32).view.loc (thr d L) ↦[Finset.univ \ ((Memref.whole main_arg0_scv : Memref sig .scVector .hbm S16777216 .f32).slice (Rect.unit (s := S16777216) o S16384.size b) hs).view.set]{q0} xm))
      ⊢ iprop(flyA d L xm q0 n ∗ restX d L xm q0 n) := by
  rw [set_xV o _ h, hw, X_read L xm n hn o h]
  refine sep_mono_left (Transfers.Flight_mono countersEmb (thr d L) (sep_mono_left (Entails.of_eq ?_)))
  exact congrArg (fun f => ((Memref.whole cc1_scratch1 : Memref sig .scVector .vmem S16384 .f32).view.loc (thr d L) ↦{fullShare} f : sProp 𝕄)) (View.write_whole_univ _ _ _)
theorem flyB_intro (n : Nat) (hn : n < 8) (o : Fin 1 → Nat) (h : o = ![base L + 16384 * n]) (b : ∀ a, o a + S16384.size a ≤ S16777216.size a)
    (hs : ∀ a, _) (fi : Buf (Elt F) ((thr d L).loc cc1_scratch2)) (w : S16384.Idx → F .f32)
    (hw : w = fun z => xm ((Rect.unit (s := S16777216) o S16384.size b).emb z)) :
    iprop((Transfers.Flight countersEmb (thr d L) (cell6) (default : HIx 1) 524288
        iprop(((Memref.whole cc1_scratch2 : Memref sig .scVector .vmem S16384 .f32).view.loc (thr d L) ↦{fullShare} (Memref.whole cc1_scratch2 : Memref sig .scVector .vmem S16384 .f32).view.write (Elt F) fi w Finset.univ)
          ∗ ((Memref.whole main_arg0_scv : Memref sig .scVector .hbm S16777216 .f32).view.loc (thr d L) ↦[((Memref.whole main_arg0_scv : Memref sig .scVector .hbm S16777216 .f32).slice (Rect.unit (s := S16777216) o S16384.size b) hs).view.set]{q1} xm)))
      ∗ ((Memref.whole main_arg0_scv : Memref sig .scVector .hbm S16777216 .f32).view.loc (thr d L) ↦[Finset.univ \ ((Memref.whole main_arg0_scv : Memref sig .scVector .hbm S16777216 .f32).slice (Rect.unit (s := S16777216) o S16384.size b) hs).view.set]{q1} xm))
      ⊢ iprop(flyB d L xm q1 n ∗ restX d L xm q1 n) := by
  rw [set_xV o _ h, hw, X_read L xm n hn o h]
  refine sep_mono_left (Transfers.Flight_mono countersEmb (thr d L) (sep_mono_left (Entails.of_eq ?_)))
  exact congrArg (fun f => ((Memref.whole cc1_scratch2 : Memref sig .scVector .vmem S16384 .f32).view.loc (thr d L) ↦{fullShare} f : sProp 𝕄)) (View.write_whole_univ _ _ _)
theorem outA_intro (n : Nat) (o : Fin 1 → Nat) (h : o = ![base L + 16384 * n]) (b : ∀ a, o a + S16384.size a ≤ S4194304.size a)
    (hs : ∀ a, _) (fs : Buf (Elt F) (sLoc d)) (go : Buf (Elt F) ((thr d L).loc cc1_scratch3)) (hgo : ∀ z : S16384.Idx, go z = cnt t (X L xm n z))
    (w : S16384.Idx → BitVec 32) (hw : w = go) :
    (Transfers.Flight countersEmb (thr d L) (cell7) (default : HIx 1) 524288
        iprop((pieceAt d L o b hs (((Memref.whole main_v3_scv : Memref sig .scVector .hbm S4194304 .i32).slice (Rect.unit (s := S4194304) o S16384.size b) hs).view.writes (Elt F) fs [⟨Rect.whole (Rect.unit (s := S4194304) o S16384.size b).shape, w⟩]))
          ∗ ((Memref.whole cc1_scratch3 : Memref sig .scVector .vmem S16384 .i32).view.loc (thr d L) ↦[(Memref.whole cc1_scratch3 : Memref sig .scVector .vmem S16384 .i32).view.set]{fullShare} go)) : sProp 𝕄)
      ⊢ outA d L xm t n := by
  subst hw
  refine Transfers.Flight_mono countersEmb (thr d L) (sep_mono (Entails.of_eq ?_) (Entails.of_eq ?_))
  · refine (pointsTo_congr (slice_writes (F := F) d o b hs fs (G3 t xm) w fun z => (hgo z).trans (G3_emb L t xm n o h b z))).trans ?_
    exact pieceAt_eq d L o _ h b hs (G3 t xm)
  · rw [show w = fun z => cnt t (X L xm n z) from funext hgo]
    exact congrArg (fun S => ((Memref.whole cc1_scratch3 : Memref sig .scVector .vmem S16384 .i32).view.loc (thr d L) ↦[S]{fullShare} fun z => cnt t (X L xm n z) : sProp 𝕄)) (Memref.IsWhole.set_eq_univ (Memref.isWhole_whole _))
theorem outB_intro (n : Nat) (o : Fin 1 → Nat) (h : o = ![base L + 16384 * n]) (b : ∀ a, o a + S16384.size a ≤ S4194304.size a)
    (hs : ∀ a, _) (fs : Buf (Elt F) (sLoc d)) (go : Buf (Elt F) ((thr d L).loc cc1_scratch4)) (hgo : ∀ z : S16384.Idx, go z = cnt t (X L xm n z))
    (w : S16384.Idx → BitVec 32) (hw : w = go) :
    (Transfers.Flight countersEmb (thr d L) (cell8) (default : HIx 1) 524288
        iprop((pieceAt d L o b hs (((Memref.whole main_v3_scv : Memref sig .scVector .hbm S4194304 .i32).slice (Rect.unit (s := S4194304) o S16384.size b) hs).view.writes (Elt F) fs [⟨Rect.whole (Rect.unit (s := S4194304) o S16384.size b).shape, w⟩]))
          ∗ ((Memref.whole cc1_scratch4 : Memref sig .scVector .vmem S16384 .i32).view.loc (thr d L) ↦[(Memref.whole cc1_scratch4 : Memref sig .scVector .vmem S16384 .i32).view.set]{fullShare} go)) : sProp 𝕄)
      ⊢ outB d L xm t n := by
  subst hw
  refine Transfers.Flight_mono countersEmb (thr d L) (sep_mono (Entails.of_eq ?_) (Entails.of_eq ?_))
  · refine (pointsTo_congr (slice_writes (F := F) d o b hs fs (G3 t xm) w fun z => (hgo z).trans (G3_emb L t xm n o h b z))).trans ?_
    exact pieceAt_eq d L o _ h b hs (G3 t xm)
  · rw [show w = fun z => cnt t (X L xm n z) from funext hgo]
    exact congrArg (fun S => ((Memref.whole cc1_scratch4 : Memref sig .scVector .vmem S16384 .i32).view.loc (thr d L) ↦[S]{fullShare} fun z => cnt t (X L xm n z) : sProp 𝕄)) (Memref.IsWhole.set_eq_univ (Memref.isWhole_whole _))

/-- The incoming side before trip `k`: chunks `2k` and `2k + 1` on their way while there are any; at the end nothing. -/
def inSide (k : Nat) : sProp 𝕄 :=
  if k < 4 then iprop((flyA d L xm q0 (2 * k) ∗ restX d L xm q0 (2 * k)) ∗ (flyB d L xm q1 (2 * k + 1) ∗ restX d L xm q1 (2 * k + 1)))
  else iprop(((∃ f, (Memref.whole cc1_scratch1 : Memref sig .scVector .vmem S16384 .f32).view.loc (thr d L) ↦{fullShare} f) ∗ semVal (thr d L, cell5) 0 ∗ ((Memref.whole main_arg0_scv : Memref sig .scVector .hbm S16777216 .f32).view.loc (thr d L) ↦{q0} xm))
    ∗ ((∃ f, (Memref.whole cc1_scratch2 : Memref sig .scVector .vmem S16384 .f32).view.loc (thr d L) ↦{fullShare} f) ∗ semVal (thr d L, cell6) 0 ∗ ((Memref.whole main_arg0_scv : Memref sig .scVector .hbm S16777216 .f32).view.loc (thr d L) ↦{q1} xm)))
/-- The outgoing side: the counts of the two chunks before on their way, once there are any. -/
def outSide (k : Nat) : sProp 𝕄 :=
  if 0 < k then iprop(outA d L xm t (2 * k - 2) ∗ outB d L xm t (2 * k - 1))
  else iprop(((∃ f, (Memref.whole cc1_scratch3 : Memref sig .scVector .vmem S16384 .i32).view.loc (thr d L) ↦{fullShare} f) ∗ semVal (thr d L, cell7) 0)
    ∗ ((∃ f, (Memref.whole cc1_scratch4 : Memref sig .scVector .vmem S16384 .i32).view.loc (thr d L) ↦{fullShare} f) ∗ semVal (thr d L, cell8) 0))

/-- Before trip `k` over the chunk pairs: both sides, the counts that have landed, the part still to be written, and what the
    thread owes. -/
def inv1 (O : CellTallies nD τ sig (HIx 1)) (W : Waits sig (HIx 1)) (k : Nat) (_ : PUnit) : sProp 𝕄 :=
  iprop(Transfers.MayWaits (thr d L) (default : HIx 1) O ∗ inSide d L xm q0 q1 k ∗ outSide d L xm t k
    ∗ ((Memref.whole main_v3_scv : Memref sig .scVector .hbm S4194304 .i32).view.loc (thr d L) ↦[rng 4194304 (base L) (base L + 16384 * (2 * k - 2))]{fullShare} G3 t xm)
    ∗ ((Memref.whole main_v3_scv : Memref sig .scVector .hbm S4194304 .i32).view.loc (thr d L) ↦[rng 4194304 (base L + 16384 * (2 * k)) (base L + 131072)]{fullShare} sm)
    ∗ ∃ W', ⌜∀ p ∈ W', p ∈ W ∨ p.2 = none ∨ p.2 = some (0 : Fin 1)⌝ ∗ owes (thr d L) O W')

theorem trips1 : k1_t1_loop.trips = 4 := by decide
theorem trips2 : k1_t2_loop.trips = 256 := by decide
theorem trips3 : k1_t3_loop.trips = 256 := by decide

theorem off5_0 (k : Fin k1_t1_loop.trips) : k1_off5 L k 0#32 = ![base L + 16384 * (2 * k.val)] :=
  (k1_off5_eq L k 0).trans (congrArg (fun v : Nat => ![v]) (show _ = base L + 16384 * (2 * k.val) by unfold base; simp only [Fin.val_zero]; omega))
theorem off5_1 (k : Fin k1_t1_loop.trips) : k1_off5 L k 1#32 = ![base L + 16384 * (2 * k.val + 1)] :=
  (k1_off5_eq L k 1).trans (congrArg (fun v : Nat => ![v]) (show _ = base L + 16384 * (2 * k.val + 1) by unfold base; simp only [Fin.val_one]; omega))

theorem off6 (k : Fin k1_t1_loop.trips) : k1_off6 L k = ![base L + 16384 * (2 * (k.val + 1))] :=
  (k1_off6_eq L k).trans (congrArg (fun v : Nat => ![v]) (show _ = base L + 16384 * (2 * (k.val + 1)) by unfold base; omega))
theorem off9 (k : Fin k1_t1_loop.trips) : k1_off9 L k = ![base L + 16384 * (2 * (k.val + 1) + 1)] :=
  (k1_off9_eq L k).trans (congrArg (fun v : Nat => ![v]) (show _ = base L + 16384 * (2 * (k.val + 1) + 1) by unfold base; omega))

/-- A range of the counts is its first chunk and the rest. -/
theorem take1 (a b c : Nat) (h : a ≤ b) (h' : b ≤ c) (f : Buf (Elt F) (sLoc d)) :
    ((Memref.whole main_v3_scv : Memref sig .scVector .hbm S4194304 .i32).view.loc (thr d L) ↦[rng 4194304 a c]{fullShare} f : sProp 𝕄)
      ⊣⊢ iprop(((Memref.whole main_v3_scv : Memref sig .scVector .hbm S4194304 .i32).view.loc (thr d L) ↦[rng 4194304 a b]{fullShare} f) ∗ ((Memref.whole main_v3_scv : Memref sig .scVector .hbm S4194304 .i32).view.loc (thr d L) ↦[rng 4194304 b c]{fullShare} f)) := by
  rw [rng_union h h']
  exact pointsTo_union (rng_disjoint (le_refl _))

/-- The part still to be written gives up the two chunks of trip `k`. -/
theorem take (k : Fin k1_t1_loop.trips) (f : Buf (Elt F) (sLoc d)) (b0 : ∀ a, k1_off5 L k 0#32 a + S16384.size a ≤ S4194304.size a)
    (b1 : ∀ a, k1_off5 L k 1#32 a + S16384.size a ≤ S4194304.size a) (h0 h1 : ∀ a, _) :
    ((Memref.whole main_v3_scv : Memref sig .scVector .hbm S4194304 .i32).view.loc (thr d L) ↦[rng 4194304 (base L + 16384 * (2 * k.val)) (base L + 131072)]{fullShare} f : sProp 𝕄)
      ⊢ iprop((pieceAt d L _ b0 h0 f)
        ∗ (pieceAt d L _ b1 h1 f)
        ∗ ((Memref.whole main_v3_scv : Memref sig .scVector .hbm S4194304 .i32).view.loc (thr d L) ↦[rng 4194304 (base L + 16384 * (2 * (k.val + 1))) (base L + 131072)]{fullShare} f)) := by
  have hk : k.val < 4 := trips1 ▸ k.isLt
  rw [pieceAt_eq d L _ _ (off5_0 L k), pieceAt_eq d L _ _ (off5_1 L k)]
  refine (take1 d L _ (base L + 16384 * (2 * k.val) + 16384) _ (by omega) (by omega) f).1.trans (sep_mono_right ?_)
  have e : base L + 16384 * (2 * k.val) + 16384 = base L + 16384 * (2 * k.val + 1) := by omega
  have e' : base L + 16384 * (2 * k.val + 1) + 16384 = base L + 16384 * (2 * (k.val + 1)) := by omega
  rw [e, e']
  exact (take1 d L _ _ _ (by omega) (by omega) f).1

/-- Two chunks that have landed join the counts before them. -/
theorem give (n : Nat) (f : Buf (Elt F) (sLoc d)) :
    iprop(((Memref.whole main_v3_scv : Memref sig .scVector .hbm S4194304 .i32).view.loc (thr d L) ↦[rng 4194304 (base L) (base L + 16384 * n)]{fullShare} f)
        ∗ ((Memref.whole main_v3_scv : Memref sig .scVector .hbm S4194304 .i32).view.loc (thr d L) ↦[rng 4194304 (base L + 16384 * n) (base L + 16384 * n + 16384)]{fullShare} f)
        ∗ ((Memref.whole main_v3_scv : Memref sig .scVector .hbm S4194304 .i32).view.loc (thr d L) ↦[rng 4194304 (base L + 16384 * (n + 1)) (base L + 16384 * (n + 1) + 16384)]{fullShare} f))
      ⊢ ((Memref.whole main_v3_scv : Memref sig .scVector .hbm S4194304 .i32).view.loc (thr d L) ↦[rng 4194304 (base L) (base L + 16384 * (n + 2))]{fullShare} f : sProp 𝕄) := by
  have e : base L + 16384 * n + 16384 = base L + 16384 * (n + 1) := by omega
  have e' : base L + 16384 * (n + 1) + 16384 = base L + 16384 * (n + 2) := by omega
  rw [e, e']
  exact (sep_mono_right (take1 d L _ _ _ (by omega) (by omega) f).2).trans (take1 d L _ _ _ (by omega) (by omega) f).2

variable (v2 : BitVec 32) (v3 v4 v5 v6 v7 v8 v9 v10 v11 v12 v13 : Vec F S16 .f32)

abbrev body1 : Fin k1_t1_loop.trips → PUnit → Prog (TpuEff nD τ sig (Elt F) Λ₀ (.scVector ((L 0).castLE hcore1) ((L 1).castLE hsub1))) PUnit :=
  k1_t1_body (F := F) L (Memref.whole main_arg0_scv : Memref sig .scVector .hbm S16777216 .f32) (Memref.isWhole_whole _) (Memref.whole main_v2_scv : Memref sig .scVector .hbm S176 .f32) (Memref.isWhole_whole _) (Memref.whole main_v3_scv : Memref sig .scVector .hbm S4194304 .i32) (Memref.isWhole_whole _) (Memref.whole cc1_scratch0 : Memref sig .scVector .vmem S176 .f32) (Memref.isWhole_whole _)
    (Memref.whole cc1_scratch1 : Memref sig .scVector .vmem S16384 .f32) (Memref.isWhole_whole _) (Memref.whole cc1_scratch2 : Memref sig .scVector .vmem S16384 .f32) (Memref.isWhole_whole _) (Memref.whole cc1_scratch3 : Memref sig .scVector .vmem S16384 .i32) (Memref.isWhole_whole _) (Memref.whole cc1_scratch4 : Memref sig .scVector .vmem S16384 .i32) (Memref.isWhole_whole _)
    cc1_scratch5 cc1_scratch6 cc1_scratch7 cc1_scratch8 cc1_scoped0 v2 v3 v4 v5 v6 v7 v8 v9 v10 v11 v12 v13

/-- A middle trip. -/
theorem step_mid (ht : Splat t v3 v4 v5 v6 v7 v8 v9 v10 v11 v12 v13) (O : CellTallies nD τ sig (HIx 1)) (W : Waits sig (HIx 1))
    (k : Fin k1_t1_loop.trips) (hk0 : 0 < k.val) (hk3 : k.val < 3) (u : PUnit) :
    inv1 d L xm sm t q0 q1 O W k.val u ⊢ wp frame (wpE (defs₀ (F := F)) 𝒱₀ (thr d L) none) Set.univ
      (body1 L v2 v3 v4 v5 v6 v7 v8 v9 v10 v11 v12 v13 k u) (inv1 d L xm sm t q0 q1 O W (k.val + 1)) := by
  have k1_h1 : k1_cond1 k = 1#1 := by revert hk0 hk3; decide +revert
  have k1_h2 : k1_cond2 k = 1#1 := by clear k1_h1; revert hk0 hk3; decide +revert
  have k1_h3 : k1_cond3 k = 1#1 := by clear k1_h1 k1_h2; revert hk0 hk3; decide +revert
  have k1_h4 : k1_cond4 k = 1#1 := by clear k1_h1 k1_h2 k1_h3; revert hk0 hk3; decide +revert
  unfold inv1
  have e1 : inSide d L xm q0 q1 k.val = iprop((flyA d L xm q0 (2 * k.val) ∗ restX d L xm q0 (2 * k.val)) ∗ (flyB d L xm q1 (2 * k.val + 1) ∗ restX d L xm q1 (2 * k.val + 1))) :=
    if_pos (by omega)
  have e2 : outSide d L xm t k.val = iprop(outA d L xm t (2 * k.val - 2) ∗ outB d L xm t (2 * k.val - 1)) := if_pos hk0
  rw [e1, e2]
  iintro ⟨#Hmw, ⟨⟨HfA, HxA⟩, HfB, HxB⟩, ⟨HoA, HoB⟩, Hdone, Htodo, %W', %hW', HO⟩
  ihave Htodo := take d L k sm (k1_off5_inb L k 0) (k1_off5_inb L k 1) (fun _ => rfl) (fun _ => rfl) $$ Htodo
  icases Htodo with ⟨Hs0, Hs1, Htodo⟩
  unfold body1 k1_t1_body
  sl_open_parts
  sl_exec (disch := exact View.amount_pos _ _ (show 0 < S16384.numel by decide))
  rw [Prog.bind_assoc]
  sl_for (invA d L t (X L xm (2 * k.val))) $$ [HfA_dst HoA_src]
  case region => intro k' u'; exact stepA d L v2 v3 v4 v5 v6 v7 v8 v9 v10 v11 v12 v13 _ _ k t ht _ k' u'
  · unfold invA
    isplitl [HfA_dst]; · iexact HfA_dst
    iexists _; isplitr
    swap; · iexact HoA_src
    ipureintro; intro y hy; omega
  iintro %_ HI
  unfold invA
  icases HI with ⟨HiA, %goA, %hgoA, HgoA⟩
  sl_exec (disch := exact View.amount_pos _ _ (show 0 < S16384.numel by decide))
  rw [Prog.bind_assoc]
  sl_for (invB d L t (X L xm (2 * k.val + 1))) $$ [HfB_dst HoB_src]
  case region => intro k' u'; exact stepB d L v2 v3 v4 v5 v6 v7 v8 v9 v10 v11 v12 v13 _ _ k t ht _ k' u'
  · unfold invB
    isplitl [HfB_dst]; · iexact HfB_dst
    iexists _; isplitr
    swap; · iexact HoB_src
    ipureintro; intro y hy; omega
  iintro %_ HI
  unfold invB
  icases HI with ⟨HiB, %goB, %hgoB, HgoB⟩
  sl_exec (disch := exact View.amount_pos _ _ (show 0 < S16384.numel by decide))
  sl_step
  have hA : ∀ z : S16384.Idx, goA z = cnt t (X L xm (2 * k.val) z) := fun z => hgoA z (show (z 0).val < 64 * k1_t2_loop.trips by rw [trips2]; exact (z 0).isLt)
  have hB : ∀ z : S16384.Idx, goB z = cnt t (X L xm (2 * k.val + 1) z) := fun z => hgoB z (show (z 0).val < 64 * k1_t3_loop.trips by rw [trips3]; exact (z 0).isLt)
  ihave HoA := outA_intro d L xm t (2 * k.val) _ (off5_0 L k) _ (fun _ => rfl) _ goA hA (step_mid.sl.dma0 d L goA) rfl $$ HoA
  ihave HoB := outB_intro d L xm t (2 * k.val + 1) _ (off5_1 L k) _ (fun _ => rfl) _ goB hB (step_mid.sl.dma0_2 d L goB) rfl $$ HoB
  have e3 : inSide d L xm q0 q1 (k.val + 1) = iprop((flyA d L xm q0 (2 * (k.val + 1)) ∗ restX d L xm q0 (2 * (k.val + 1))) ∗ (flyB d L xm q1 (2 * (k.val + 1) + 1) ∗ restX d L xm q1 (2 * (k.val + 1) + 1))) :=
    if_pos (by omega)
  have e4 : outSide d L xm t (k.val + 1) = iprop(outA d L xm t (2 * (k.val + 1) - 2) ∗ outB d L xm t (2 * (k.val + 1) - 1)) := if_pos (Nat.succ_pos _)
  have e5 : 2 * (k.val + 1) - 2 = 2 * k.val := by omega
  have e6 : 2 * (k.val + 1) - 1 = 2 * k.val + 1 := by omega
  have e7 : 2 * k.val = (2 * k.val - 2) + 2 := by omega
  have e8 : 2 * k.val - 1 = (2 * k.val - 2) + 1 := by omega
  rw [e3, e4, e5, e6]
  ihave HinA := (flyA_intro d L xm q0 (2 * (k.val + 1)) (by omega) _ (off6 L k) _ (fun _ => rfl) _ (step_mid.sl.dma0_1 d L xm k k1_h2) rfl) $$ [HfA HxA]
  · isplitl [HfA]; · iexact HfA
    iexact HxA
  ihave HinB := (flyB_intro d L xm q1 (2 * (k.val + 1) + 1) (by omega) _ (off9 L k) _ (fun _ => rfl) _ (step_mid.sl.dma0_3 d L xm k k1_h4) rfl) $$ [HfB HxB]
  · isplitl [HfB]; · iexact HfB
    iexact HxB
  isplitr; · iexact Hmw
  isplitl [HinA HinB]
  · isplitl [HinA]; · iexact HinA
    iexact HinB
  isplitl [HoA HoB]
  · isplitl [HoA]; · iexact HoA
    iexact HoB
  isplitl [Hdone HoA_dst HoB_dst]
  · have hg := give (F := F) d L (2 * k.val - 2) (G3 t xm)
    rw [← e7, ← e8] at hg
    iapply hg
    isplitl [Hdone]; · iexact Hdone
    isplitl [HoA_dst]; · iexact HoA_dst
    iexact HoB_dst
  isplitl [Htodo]; · iexact Htodo
  iexists _
  isplitr
  swap; · iexact HO
  ipureintro
  intro p hp
  rcases p.2 with _ | q
  · exact .inr (.inl rfl)
  · exact .inr (.inr (congrArg some (Subsingleton.elim q 0)))

/-- The first trip: nothing is on its way out yet. -/
theorem step_first (ht : Splat t v3 v4 v5 v6 v7 v8 v9 v10 v11 v12 v13) (O : CellTallies nD τ sig (HIx 1)) (W : Waits sig (HIx 1))
    (k : Fin k1_t1_loop.trips) (hk0 : k.val = 0) (u : PUnit) :
    inv1 d L xm sm t q0 q1 O W k.val u ⊢ wp frame (wpE (defs₀ (F := F)) 𝒱₀ (thr d L) none) Set.univ
      (body1 L v2 v3 v4 v5 v6 v7 v8 v9 v10 v11 v12 v13 k u) (inv1 d L xm sm t q0 q1 O W (k.val + 1)) := by
  have k1_h1 : ¬ k1_cond1 k = 1#1 := by revert hk0; decide +revert
  have k1_h2 : k1_cond2 k = 1#1 := by clear k1_h1; revert hk0; decide +revert
  have k1_h3 : ¬ k1_cond3 k = 1#1 := by clear k1_h1 k1_h2; revert hk0; decide +revert
  have k1_h4 : k1_cond4 k = 1#1 := by clear k1_h1 k1_h2 k1_h3; revert hk0; decide +revert
  unfold inv1
  have e1 : inSide d L xm q0 q1 k.val = iprop((flyA d L xm q0 (2 * k.val) ∗ restX d L xm q0 (2 * k.val)) ∗ (flyB d L xm q1 (2 * k.val + 1) ∗ restX d L xm q1 (2 * k.val + 1))) :=
    if_pos (by omega)
  have e2 : outSide d L xm t k.val = iprop(((∃ f, (Memref.whole cc1_scratch3 : Memref sig .scVector .vmem S16384 .i32).view.loc (thr d L) ↦{fullShare} f) ∗ semVal (thr d L, cell7) 0)
      ∗ ((∃ f, (Memref.whole cc1_scratch4 : Memref sig .scVector .vmem S16384 .i32).view.loc (thr d L) ↦{fullShare} f) ∗ semVal (thr d L, cell8) 0)) := if_neg (by omega)
  rw [e1, e2]
  iintro ⟨#Hmw, ⟨⟨HfA, HxA⟩, HfB, HxB⟩, ⟨⟨⟨%fo, Ho⟩, Hs7⟩, ⟨%fp, Hp⟩, Hs8⟩, Hdone, Htodo, %W', %hW', HO⟩
  ihave Htodo := take d L k sm (k1_off5_inb L k 0) (k1_off5_inb L k 1) (fun _ => rfl) (fun _ => rfl) $$ Htodo
  icases Htodo with ⟨Hs0, Hs1, Htodo⟩
  unfold body1 k1_t1_body
  sl_open_parts
  sl_exec (disch := exact View.amount_pos _ _ (show 0 < S16384.numel by decide))
  rw [Prog.bind_assoc]
  sl_for (invA d L t (X L xm (2 * k.val))) $$ [HfA_dst Ho]
  case region => intro k' u'; exact stepA d L v2 v3 v4 v5 v6 v7 v8 v9 v10 v11 v12 v13 _ _ k t ht _ k' u'
  · unfold invA
    isplitl [HfA_dst]; · iexact HfA_dst
    iexists _; isplitr
    swap; · iexact Ho
    ipureintro; intro y hy; omega
  iintro %_ HI
  unfold invA
  icases HI with ⟨HiA, %goA, %hgoA, HgoA⟩
  sl_exec (disch := exact View.amount_pos _ _ (show 0 < S16384.numel by decide))
  rw [Prog.bind_assoc]
  sl_for (invB d L t (X L xm (2 * k.val + 1))) $$ [HfB_dst Hp]
  case region => intro k' u'; exact stepB d L v2 v3 v4 v5 v6 v7 v8 v9 v10 v11 v12 v13 _ _ k t ht _ k' u'
  · unfold invB
    isplitl [HfB_dst]; · iexact HfB_dst
    iexists _; isplitr
    swap; · iexact Hp
    ipureintro; intro y hy; omega
  iintro %_ HI
  unfold invB
  icases HI with ⟨HiB, %goB, %hgoB, HgoB⟩
  sl_exec (disch := exact View.amount_pos _ _ (show 0 < S16384.numel by decide))
  sl_step
  have hA : ∀ z : S16384.Idx, goA z = cnt t (X L xm (2 * k.val) z) := fun z => hgoA z (show (z 0).val < 64 * k1_t2_loop.trips by rw [trips2]; exact (z 0).isLt)
  have hB : ∀ z : S16384.Idx, goB z = cnt t (X L xm (2 * k.val + 1) z) := fun z => hgoB z (show (z 0).val < 64 * k1_t3_loop.trips by rw [trips3]; exact (z 0).isLt)
  ihave HoA := outA_intro d L xm t (2 * k.val) _ (off5_0 L k) _ (fun _ => rfl) _ goA hA (step_first.sl.dma0 d L goA) rfl $$ Hs7
  ihave HoB := outB_intro d L xm t (2 * k.val + 1) _ (off5_1 L k) _ (fun _ => rfl) _ goB hB (step_first.sl.dma0_2 d L goB) rfl $$ Hs8
  have e3 : inSide d L xm q0 q1 (k.val + 1) = iprop((flyA d L xm q0 (2 * (k.val + 1)) ∗ restX d L xm q0 (2 * (k.val + 1))) ∗ (flyB d L xm q1 (2 * (k.val + 1) + 1) ∗ restX d L xm q1 (2 * (k.val + 1) + 1))) :=
    if_pos (by omega)
  have e4 : outSide d L xm t (k.val + 1) = iprop(outA d L xm t (2 * (k.val + 1) - 2) ∗ outB d L xm t (2 * (k.val + 1) - 1)) := if_pos (Nat.succ_pos _)
  have e5 : 2 * (k.val + 1) - 2 = 2 * k.val := by omega
  have e6 : 2 * (k.val + 1) - 1 = 2 * k.val + 1 := by omega
  have e7 : 2 * k.val = 2 * k.val - 2 := by omega
  rw [e3, e4, e5, e6]
  ihave HinA := (flyA_intro d L xm q0 (2 * (k.val + 1)) (by omega) _ (off6 L k) _ (fun _ => rfl) _ (step_first.sl.dma0_1 d L xm k k1_h2) rfl) $$ [HfA HxA]
  · isplitl [HfA]; · iexact HfA
    iexact HxA
  ihave HinB := (flyB_intro d L xm q1 (2 * (k.val + 1) + 1) (by omega) _ (off9 L k) _ (fun _ => rfl) _ (step_first.sl.dma0_3 d L xm k k1_h4) rfl) $$ [HfB HxB]
  · isplitl [HfB]; · iexact HfB
    iexact HxB
  isplitr; · iexact Hmw
  isplitl [HinA HinB]
  · isplitl [HinA]; · iexact HinA
    iexact HinB
  isplitl [HoA HoB]
  · isplitl [HoA]; · iexact HoA
    iexact HoB
  isplitl [Hdone]
  · rw [← e7]; iexact Hdone
  isplitl [Htodo]; · iexact Htodo
  iexists _
  isplitr
  swap; · iexact HO
  ipureintro
  intro p hp
  rcases p.2 with _ | q
  · exact .inr (.inl rfl)
  · exact .inr (.inr (congrArg some (Subsingleton.elim q 0)))

/-- The last trip: nothing more comes in. -/
theorem step_last (ht : Splat t v3 v4 v5 v6 v7 v8 v9 v10 v11 v12 v13) (O : CellTallies nD τ sig (HIx 1)) (W : Waits sig (HIx 1))
    (k : Fin k1_t1_loop.trips) (hk3 : k.val = 3) (u : PUnit) :
    inv1 d L xm sm t q0 q1 O W k.val u ⊢ wp frame (wpE (defs₀ (F := F)) 𝒱₀ (thr d L) none) Set.univ
      (body1 L v2 v3 v4 v5 v6 v7 v8 v9 v10 v11 v12 v13 k u) (inv1 d L xm sm t q0 q1 O W (k.val + 1)) := by
  have k1_h1 : k1_cond1 k = 1#1 := by revert hk3; decide +revert
  have k1_h2 : ¬ k1_cond2 k = 1#1 := by clear k1_h1; revert hk3; decide +revert
  have k1_h3 : k1_cond3 k = 1#1 := by clear k1_h1 k1_h2; revert hk3; decide +revert
  have k1_h4 : ¬ k1_cond4 k = 1#1 := by clear k1_h1 k1_h2 k1_h3; revert hk3; decide +revert
  unfold inv1
  have e1 : inSide d L xm q0 q1 k.val = iprop((flyA d L xm q0 (2 * k.val) ∗ restX d L xm q0 (2 * k.val)) ∗ (flyB d L xm q1 (2 * k.val + 1) ∗ restX d L xm q1 (2 * k.val + 1))) :=
    if_pos (by omega)
  have e2 : outSide d L xm t k.val = iprop(outA d L xm t (2 * k.val - 2) ∗ outB d L xm t (2 * k.val - 1)) := if_pos (by omega)
  rw [e1, e2]
  iintro ⟨#Hmw, ⟨⟨HfA, HxA⟩, HfB, HxB⟩, ⟨HoA, HoB⟩, Hdone, Htodo, %W', %hW', HO⟩
  ihave Htodo := take d L k sm (k1_off5_inb L k 0) (k1_off5_inb L k 1) (fun _ => rfl) (fun _ => rfl) $$ Htodo
  icases Htodo with ⟨Hs0, Hs1, Htodo⟩
  unfold body1 k1_t1_body
  sl_open_parts
  sl_exec (disch := exact View.amount_pos _ _ (show 0 < S16384.numel by decide))
  rw [Prog.bind_assoc]
  sl_for (invA d L t (X L xm (2 * k.val))) $$ [HfA_dst HoA_src]
  case region => intro k' u'; exact stepA d L v2 v3 v4 v5 v6 v7 v8 v9 v10 v11 v12 v13 _ _ k t ht _ k' u'
  · unfold invA
    isplitl [HfA_dst]; · iexact HfA_dst
    iexists _; isplitr
    swap; · iexact HoA_src
    ipureintro; intro y hy; omega
  iintro %_ HI
  unfold invA
  icases HI with ⟨HiA, %goA, %hgoA, HgoA⟩
  sl_exec (disch := exact View.amount_pos _ _ (show 0 < S16384.numel by decide))
  rw [Prog.bind_assoc]
  sl_for (invB d L t (X L xm (2 * k.val + 1))) $$ [HfB_dst HoB_src]
  case region => intro k' u'; exact stepB d L v2 v3 v4 v5 v6 v7 v8 v9 v10 v11 v12 v13 _ _ k t ht _ k' u'
  · unfold invB
    isplitl [HfB_dst]; · iexact HfB_dst
    iexists _; isplitr
    swap; · iexact HoB_src
    ipureintro; intro y hy; omega
  iintro %_ HI
  unfold invB
  icases HI with ⟨HiB, %goB, %hgoB, HgoB⟩
  sl_exec (disch := exact View.amount_pos _ _ (show 0 < S16384.numel by decide))
  sl_step
  have hA : ∀ z : S16384.Idx, goA z = cnt t (X L xm (2 * k.val) z) := fun z => hgoA z (show (z 0).val < 64 * k1_t2_loop.trips by rw [trips2]; exact (z 0).isLt)
  have hB : ∀ z : S16384.Idx, goB z = cnt t (X L xm (2 * k.val + 1) z) := fun z => hgoB z (show (z 0).val < 64 * k1_t3_loop.trips by rw [trips3]; exact (z 0).isLt)
  ihave HoA := outA_intro d L xm t (2 * k.val) _ (off5_0 L k) _ (fun _ => rfl) _ goA hA (step_last.sl.dma0 d L goA) rfl $$ HoA
  ihave HoB := outB_intro d L xm t (2 * k.val + 1) _ (off5_1 L k) _ (fun _ => rfl) _ goB hB (step_last.sl.dma0_1 d L goB) rfl $$ HoB
  have e3 : inSide d L xm q0 q1 (k.val + 1) = iprop(((∃ f, (Memref.whole cc1_scratch1 : Memref sig .scVector .vmem S16384 .f32).view.loc (thr d L) ↦{fullShare} f) ∗ semVal (thr d L, cell5) 0 ∗ ((Memref.whole main_arg0_scv : Memref sig .scVector .hbm S16777216 .f32).view.loc (thr d L) ↦{q0} xm))
      ∗ ((∃ f, (Memref.whole cc1_scratch2 : Memref sig .scVector .vmem S16384 .f32).view.loc (thr d L) ↦{fullShare} f) ∗ semVal (thr d L, cell6) 0 ∗ ((Memref.whole main_arg0_scv : Memref sig .scVector .hbm S16777216 .f32).view.loc (thr d L) ↦{q1} xm))) :=
    if_neg (by omega)
  have e4 : outSide d L xm t (k.val + 1) = iprop(outA d L xm t (2 * (k.val + 1) - 2) ∗ outB d L xm t (2 * (k.val + 1) - 1)) := if_pos (Nat.succ_pos _)
  have e5 : 2 * (k.val + 1) - 2 = 2 * k.val := by omega
  have e6 : 2 * (k.val + 1) - 1 = 2 * k.val + 1 := by omega
  have e7 : 2 * k.val = (2 * k.val - 2) + 2 := by omega
  have e8 : 2 * k.val - 1 = (2 * k.val - 2) + 1 := by omega
  rw [e3, e4, e5, e6]
  isplitr; · iexact Hmw
  isplitl [HiA HfA HxA HiB HfB HxB]
  · isplitl [HiA HfA HxA]
    · isplitl [HiA]; · iexists _; iexact HiA
      isplitl [HfA]; · iexact HfA
      iexact HxA
    · isplitl [HiB]; · iexists _; iexact HiB
      isplitl [HfB]; · iexact HfB
      iexact HxB
  isplitl [HoA HoB]
  · isplitl [HoA]; · iexact HoA
    iexact HoB
  isplitl [Hdone HoA_dst HoB_dst]
  · have hg := give (F := F) d L (2 * k.val - 2) (G3 t xm)
    rw [← e7, ← e8] at hg
    iapply hg
    isplitl [Hdone]; · iexact Hdone
    isplitl [HoA_dst]; · iexact HoA_dst
    iexact HoB_dst
  isplitl [Htodo]; · iexact Htodo
  iexists _
  isplitr
  swap; · iexact HO
  ipureintro
  intro p hp
  rcases p.2 with _ | q
  · exact .inr (.inl rfl)
  · exact .inr (.inr (congrArg some (Subsingleton.elim q 0)))

/-- Any trip. -/
theorem step (ht : Splat t v3 v4 v5 v6 v7 v8 v9 v10 v11 v12 v13) (O : CellTallies nD τ sig (HIx 1)) (W : Waits sig (HIx 1))
    (k : Fin k1_t1_loop.trips) (u : PUnit) :
    inv1 d L xm sm t q0 q1 O W k.val u ⊢ wp frame (wpE (defs₀ (F := F)) 𝒱₀ (thr d L) none) Set.univ
      (body1 L v2 v3 v4 v5 v6 v7 v8 v9 v10 v11 v12 v13 k u) (inv1 d L xm sm t q0 q1 O W (k.val + 1)) := by
  have hk : k.val < 4 := trips1 ▸ k.isLt
  rcases Nat.eq_zero_or_pos k.val with h0 | h0
  · exact step_first d L xm sm t q0 q1 v2 v3 v4 v5 v6 v7 v8 v9 v10 v11 v12 v13 ht O W k h0 u
  · rcases Nat.lt_or_ge k.val 3 with h3 | h3
    · exact step_mid d L xm sm t q0 q1 v2 v3 v4 v5 v6 v7 v8 v9 v10 v11 v12 v13 ht O W k h0 h3 u
    · exact step_last d L xm sm t q0 q1 v2 v3 v4 v5 v6 v7 v8 v9 v10 v11 v12 v13 ht O W k (by omega) u

end Tile

end Cert.Proof.Count

end
-- ==== Proof.Task.lean ====
/-
  The whole task of a subcore: its thresholds, the loop over the chunk pairs, the last two copies out.
-/
module

public import proofs.«01_k».proof.Proof.Tile

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Task

variable (d : Dev nD) (L : grid1.Coords)
variable (xm : Buf (Elt F) (xLoc d)) (rm : Buf (Elt F) (rLoc d)) (sm : Buf (Elt F) (sLoc d)) (t : Fin 11 → F .f32)
  (q : PosShare TreeShare)

theorem off1_0 : k1_off1 L 0#32 = ![base L + 16384 * 0] :=
  (k1_off1_eq L 0).trans (congrArg (fun v : Nat => ![v]) (show _ = base L + 16384 * 0 by unfold base; simp only [Fin.val_zero]))
theorem off1_1 : k1_off1 L 16384#32 = ![base L + 16384 * 1] :=
  (k1_off1_eq L 1).trans (congrArg (fun v : Nat => ![v]) (show _ = base L + 16384 * 1 by unfold base; simp only [Fin.val_one]))

/-- A share of the scores is two read tokens, one for each copy in flight, and the rest. -/
theorem two_shares (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h := Transfers.pointsTo_toks_range (ℓ := xLoc d) (S := Finset.univ) (f := f) (Ix := HIx 1) (Val := Elt F) (Name := ℕ) (U := UU) (Lvl := ℕ) q 2
  have e : (BI.bigSep (Finset.range 2) fun i => (xLoc d ↦{Transfers.shareTokN q i} f : sProp 𝕄)) = iprop((xLoc d ↦{Transfers.shareTokN q 0} f) ∗ (xLoc d ↦{Transfers.shareTokN q 1} f)) := by
    rw [show Finset.range 2 = {0, 1} from rfl, SparseCore.bigSep_insert' (by decide), bigSep_singleton]
  rw [e] at h
  exact h

/-- From what it is handed a task reaches its part of the counts. -/
theorem tile_body (hF : (K (F := F)).Facts) (O : CellTallies nD τ sig (HIx 1)) (W : Waits sig (HIx 1)) (hO : ∀ g, O g none = 0)
    (hr : ∀ (y : S176.Idx) (j : Fin 11), (y 0).val / 16 = j.val → rm y = t j) :
    iprop(levAts (K (F := F)).L (K (F := F)).lev ∗ emp
        ∗ tileRes d L xm rm q sm
        ∗ scopedBufs (thr d L) ∗ scopedSems0 (thr d L) ∗ owes (thr d L) O W)
      ⊢ wp frame (wpE (defs₀ (F := F)) 𝒱₀ (thr d L) none) Set.univ (body (F := F) L)
          fun _ => iprop(tileRes d L xm rm q (G3 t xm)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, Hr, Hs⟩, ⟨⟨%ft, Ht⟩, ⟨%fi, Hi⟩, ⟨%fj, Hj⟩, ⟨%fo, Ho⟩, ⟨%fp, Hp⟩, Hbufs⟩, ⟨Hs5, Hs6, Hs7, Hs8, Hs9, Hsems⟩, HO⟩
  ihave Hmw := (show levAts (K (F := F)).L (K (F := F)).lev ⊢ Transfers.MayWaits (thr d L) (default : HIx 1) O from
    (K (F := F)).mayWaits_none (thr := thr d L) hO) $$ Hlv
  ihave Hx := (two_shares d q xm).1 $$ Hx
  icases Hx with ⟨Hxd, Hx0, Hx1⟩
  ihave Hx0 := (Entails.of_eq (show (xLoc d ↦{(Transfers.shareTokN q 0)} xm : sProp 𝕄) = ((Memref.whole main_arg0_scv : Memref sig .scVector .hbm S16777216 .f32).view.loc (thr d L) ↦{(Transfers.shareTokN q 0)} xm) from rfl)) $$ Hx0
  ihave Hx1 := (Entails.of_eq (show (xLoc d ↦{(Transfers.shareTokN q 1)} xm : sProp 𝕄) = ((Memref.whole main_arg0_scv : Memref sig .scVector .hbm S16777216 .f32).view.loc (thr d L) ↦{(Transfers.shareTokN q 1)} xm) from rfl)) $$ Hx1
  ihave Hr := (Entails.of_eq (show (rLoc d ↦{q} rm : sProp 𝕄) = ((Memref.whole main_v2_scv : Memref sig .scVector .hbm S176 .f32).view.loc (thr d L) ↦{q} rm) from rfl)) $$ Hr
  ihave Ht := (Entails.of_eq (show ((thr d L).loc cc1_scratch0 ↦{fullShare} ft : sProp 𝕄) = ((Memref.whole cc1_scratch0 : Memref sig .scVector .vmem S176 .f32).view.loc (thr d L) ↦{fullShare} ft) from rfl)) $$ Ht
  ihave Hi := (Entails.of_eq (show ((thr d L).loc cc1_scratch1 ↦{fullShare} fi : sProp 𝕄) = ((Memref.whole cc1_scratch1 : Memref sig .scVector .vmem S16384 .f32).view.loc (thr d L) ↦{fullShare} fi) from rfl)) $$ Hi
  ihave Hj := (Entails.of_eq (show ((thr d L).loc cc1_scratch2 ↦{fullShare} fj : sProp 𝕄) = ((Memref.whole cc1_scratch2 : Memref sig .scVector .vmem S16384 .f32).view.loc (thr d L) ↦{fullShare} fj) from rfl)) $$ Hj
  unfold body
  rw [cc1__sc_kernel_body_eq_skeleton]
  sl_unfold [cc1__sc_kernel_body_skel]
  sl_exec (disch := exact View.amount_pos _ _ (show 0 < S16384.numel by decide))
  ihave HinA := (flyA_intro d L xm (Transfers.shareTokN q 0) 0 (by omega) _ (off1_0 L) _ (fun _ => rfl) fi (tile_body.sl.dma11 d L xm) rfl) $$ [Hs5 Hx0]
  · isplitl [Hs5]; · iexact Hs5
    iexact Hx0
  ihave HinB := (flyB_intro d L xm (Transfers.shareTokN q 1) 1 (by omega) _ (off1_1 L) _ (fun _ => rfl) fj (tile_body.sl.dma11_1 d L xm) rfl) $$ [Hs6 Hx1]
  · isplitl [Hs6]; · iexact Hs6
    iexact Hx1
  sl_for (inv1 d L xm sm t (Transfers.shareTokN q 0) (Transfers.shareTokN q 1) O W) $$ [HinA HinB Ho Hp Hs Hs7 Hs8 HO]
  case region =>
    intro k u
    refine step d L xm sm t (Transfers.shareTokN q 0) (Transfers.shareTokN q 1) _ _ _ _ _ _ _ _ _ _ _ _ ?_ O W k u
    intro l
    rw [View.write_whole_univ]
    funext j
    have hl : (l 0).val < 16 := (l 0).isLt
    match j with
    | 0 => exact hr ((Rect.unit (s := S176) ![0] S16.size inb_S176_S16_0).emb l) 0 (by show (0 + 1 * (l 0).val) / 16 = 0; omega)
    | 1 => exact hr ((Rect.unit (s := S176) ![16] S16.size inb_S176_S16_16).emb l) 1 (by show (16 + 1 * (l 0).val) / 16 = 1; omega)
    | 2 => exact hr ((Rect.unit (s := S176) ![32] S16.size inb_S176_S16_32).emb l) 2 (by show (32 + 1 * (l 0).val) / 16 = 2; omega)
    | 3 => exact hr ((Rect.unit (s := S176) ![48] S16.size inb_S176_S16_48).emb l) 3 (by show (48 + 1 * (l 0).val) / 16 = 3; omega)
    | 4 => exact hr ((Rect.unit (s := S176) ![64] S16.size inb_S176_S16_64).emb l) 4 (by show (64 + 1 * (l 0).val) / 16 = 4; omega)
    | 5 => exact hr ((Rect.unit (s := S176) ![80] S16.size inb_S176_S16_80).emb l) 5 (by show (80 + 1 * (l 0).val) / 16 = 5; omega)
    | 6 => exact hr ((Rect.unit (s := S176) ![96] S16.size inb_S176_S16_96).emb l) 6 (by show (96 + 1 * (l 0).val) / 16 = 6; omega)
    | 7 => exact hr ((Rect.unit (s := S176) ![112] S16.size inb_S176_S16_112).emb l) 7 (by show (112 + 1 * (l 0).val) / 16 = 7; omega)
    | 8 => exact hr ((Rect.unit (s := S176) ![128] S16.size inb_S176_S16_128).emb l) 8 (by show (128 + 1 * (l 0).val) / 16 = 8; omega)
    | 9 => exact hr ((Rect.unit (s := S176) ![144] S16.size inb_S176_S16_144).emb l) 9 (by show (144 + 1 * (l 0).val) / 16 = 9; omega)
    | 10 => exact hr ((Rect.unit (s := S176) ![160] S16.size inb_S176_S16_160).emb l) 10 (by show (160 + 1 * (l 0).val) / 16 = 10; omega)
  · unfold inv1
    rw [show inSide d L xm (Transfers.shareTokN q 0) (Transfers.shareTokN q 1) 0 = iprop((flyA d L xm (Transfers.shareTokN q 0) (2 * 0) ∗ restX d L xm (Transfers.shareTokN q 0) (2 * 0)) ∗ (flyB d L xm (Transfers.shareTokN q 1) (2 * 0 + 1) ∗ restX d L xm (Transfers.shareTokN q 1) (2 * 0 + 1))) from if_pos (by omega),
      show outSide d L xm t 0 = iprop(((∃ f, (Memref.whole cc1_scratch3 : Memref sig .scVector .vmem S16384 .i32).view.loc (thr d L) ↦{fullShare} f) ∗ semVal (thr d L, cell7) 0)
        ∗ ((∃ f, (Memref.whole cc1_scratch4 : Memref sig .scVector .vmem S16384 .i32).view.loc (thr d L) ↦{fullShare} f) ∗ semVal (thr d L, cell8) 0)) from if_neg (by omega)]
    isplitr; · iexact Hmw
    isplitl [HinA HinB]
    · isplitl [HinA]; · iexact HinA
      iexact HinB
    isplitl [Ho Hp Hs7 Hs8]
    · isplitl [Ho Hs7]
      · isplitl [Ho]; · iexists _; iexact Ho
        iexact Hs7
      · isplitl [Hp]; · iexists _; iexact Hp
        iexact Hs8
    isplitr
    · rw [show rng 4194304 (base L) (base L + 16384 * (2 * 0 - 2)) = ∅ from Finset.filter_false_of_mem fun y _ => by omega, pointsTo_empty]
      iempintro
    isplitl [Hs]; · iexact Hs
    iexists _
    isplitr
    swap; · iexact HO
    ipureintro
    intro p hp
    rcases p.2 with _ | q
    · exact .inr (.inl rfl)
    · exact .inr (.inr (congrArg some (Subsingleton.elim q 0)))
  iintro %_ HI
  unfold inv1
  rw [show Scf.trips k1_t1_loop.lb k1_t1_loop.ub k1_t1_loop.st = 4 from trips1,
    show inSide d L xm (Transfers.shareTokN q 0) (Transfers.shareTokN q 1) 4 = iprop(((∃ f, (Memref.whole cc1_scratch1 : Memref sig .scVector .vmem S16384 .f32).view.loc (thr d L) ↦{fullShare} f) ∗ semVal (thr d L, cell5) 0 ∗ ((Memref.whole main_arg0_scv : Memref sig .scVector .hbm S16777216 .f32).view.loc (thr d L) ↦{(Transfers.shareTokN q 0)} xm))
      ∗ ((∃ f, (Memref.whole cc1_scratch2 : Memref sig .scVector .vmem S16384 .f32).view.loc (thr d L) ↦{fullShare} f) ∗ semVal (thr d L, cell6) 0 ∗ ((Memref.whole main_arg0_scv : Memref sig .scVector .hbm S16777216 .f32).view.loc (thr d L) ↦{(Transfers.shareTokN q 1)} xm))) from if_neg (by omega),
    show outSide d L xm t 4 = iprop(outA d L xm t (2 * 4 - 2) ∗ outB d L xm t (2 * 4 - 1)) from if_pos (by omega)]
  icases HI with ⟨-, ⟨⟨⟨%fi', Hi⟩, Hs5, Hx0⟩, ⟨%fj', Hj⟩, Hs6, Hx1⟩, ⟨HoA, HoB⟩, Hdone, -, %W', %hW', HO⟩
  sl_exec (disch := exact View.amount_pos _ _ (show 0 < S16384.numel by decide))
  sl_step
  isplitl [Hxd Hx0 Hx1 Hr Hdone HoA_dst HoB_dst]
  · isplitl [Hxd Hx0 Hx1]
    · iapply (two_shares d q xm).2
      isplitl [Hxd]; · iexact Hxd
      isplitl [Hx0]; · iexact Hx0
      iexact Hx1
    isplitl [Hr]; · iexact Hr
    iapply (give (F := F) d L 6 (G3 t xm))
    isplitl [Hdone]; · iexact Hdone
    isplitl [HoA_dst]; · iexact HoA_dst
    iexact HoB_dst
  isplitl [Ht Hi Hj HoA_src HoB_src Hbufs]
  · isplitl [Ht]; · iexists _; iexact Ht
    isplitl [Hi]; · iexists _; iexact Hi
    isplitl [Hj]; · iexists _; iexact Hj
    isplitl [HoA_src]; · iexists _; iexact HoA_src
    isplitl [HoB_src]; · iexists _; iexact HoB_src
    iexact Hbufs
  isplitl [Hs5 Hs6 HoA HoB Hs9 Hsems]
  · isplitl [Hs5]; · iexact Hs5
    isplitl [Hs6]; · iexact Hs6
    isplitl [HoA]; · iexact HoA
    isplitl [HoB]; · iexact HoB
    isplitl [Hs9]; · iexact Hs9
    iexact Hsems
  iexists _
  isplitr
  swap; · iexact HO
  ipureintro
  intro p hp
  rcases p.2 with _ | q
  · exact .inr (.inl rfl)
  · exact .inr (.inr (congrArg some (Subsingleton.elim q 0)))

end Task

end Cert.Proof.Count

end
-- ==== Proof.Deal.lean ====
/-
  How the SparseCore call's arrays are dealt: the scores and the repeated thresholds as read shares, the counts cut into
  the tasks' parts; and each task's obligation.
-/
module

public import proofs.«01_k».proof.Proof.Task

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The thresholds, once and sixteen times each -/

/-- Place `j` of the thresholds. -/
def ix11 (j : Fin 11) : S11.Idx := fun | 0 => j

section Deal

variable (m : (ℓ : Loc nD τ sig) → Buf (Elt F) ℓ)

/-- The thresholds the launch memory holds. -/
def TH (d : Dev nD) (j : Fin 11) : F .f32 := m (tLoc d) (ix11 j)

/-- Each repeated sixteen times, in one line, as the host builds them. -/
def RM (d : Dev nD) : Buf (Elt F) (rLoc d) :=
  fun i => shapeCast S176 (broadcastInDim S11x16 ![0] bcast_S11_S11x16_0 (m (tLoc d)) : S11x16.Idx → F .f32) shapeCasts_S11x16_S176 i

omit [FloatOps F] in
theorem RM_apply (d : Dev nD) (y : S176.Idx) (j : Fin 11) (h : (y 0).val / 16 = j.val) : RM m d y = TH m d j := by
  let z : S11x16.Idx := fun | 0 => j | 1 => ⟨(y 0).val % 16, Nat.mod_lt _ (by decide)⟩
  have e : Shape.reshapeEquiv (s := S11x16) (s' := S176) shapeCasts_S11x16_S176 y = z := by
    refine Shape.reshapeEquiv_eq_of_rowMajor _ ?_
    rw [Shape.rowMajor_val_one, Shape.rowMajor_val_two]
    show (j.val * 16 + (y 0).val % 16) = (y 0).val
    omega
  show broadcastInDim S11x16 ![0] bcast_S11_S11x16_0 (m (tLoc d)) (Shape.reshapeEquiv shapeCasts_S11x16_S176 y) = _
  rw [e]
  exact congrArg (m (tLoc d)) (funext fun (a : Fin 1) => match a with | 0 => rfl)

/-! ## Who gets what -/

def coordsV (c : Fin (grid1.bound 0)) (s : Fin (grid1.bound 1)) : grid1.Coords :=
  fun | 0 => c | 1 => s | ⟨_ + 2, h⟩ => absurd h (Nat.not_lt.2 (Nat.le_add_left _ _))

/-- The read shares of a SparseCore and of its tasks. -/
def cq (c : Nat) : PosShare TreeShare := Transfers.shareTokN fullShare c
def tq (c i : Nat) : PosShare TreeShare := Transfers.shareTokN (cq c) i

/-- A task's part of the counts, and its SparseCore's. -/
def part (c : Fin 2) (i : Fin 16) : Finset S4194304.Idx := rng 4194304 (base (coordsV c i)) (base (coordsV c i) + 131072)
def half (c : Fin 2) : Finset S4194304.Idx := Finset.univ.biUnion (part c)

theorem mem_part {c : Fin 2} {i : Fin 16} {y : S4194304.Idx} :
    y ∈ part c i ↔ 262144 * i.val + 131072 * c.val ≤ (y 0).val ∧ (y 0).val < 262144 * i.val + 131072 * c.val + 131072 := mem_rng

theorem part_disjoint (c : Fin 2) : ∀ i ∈ (Finset.univ : Finset (Fin 16)), ∀ j ∈ (Finset.univ : Finset (Fin 16)), i ≠ j → Disjoint (part c i) (part c j) := by
  intro i _ j _ hij
  have hne : i.val ≠ j.val := fun e => hij (Fin.ext e)
  rw [Finset.disjoint_left]
  intro y
  rw [mem_part, mem_part]
  omega

theorem mem_half {c : Fin 2} {y : S4194304.Idx} : y ∈ half c ↔ (y 0).val / 131072 % 2 = c.val := by
  have hy : (y 0).val < 4194304 := (y 0).isLt
  have hc := c.isLt
  unfold half
  rw [Finset.mem_biUnion]
  constructor
  · rintro ⟨i, _, hi⟩
    rw [mem_part] at hi
    omega
  · intro h
    refine ⟨⟨(y 0).val / 262144, by omega⟩, Finset.mem_univ _, ?_⟩
    rw [mem_part]
    show 262144 * ((y 0).val / 262144) + 131072 * c.val ≤ (y 0).val ∧ (y 0).val < 262144 * ((y 0).val / 262144) + 131072 * c.val + 131072
    omega

theorem half_disjoint : ∀ c ∈ (Finset.univ : Finset (Fin 2)), ∀ c' ∈ (Finset.univ : Finset (Fin 2)), c ≠ c' → Disjoint (half c) (half c') := by
  intro c _ c' _ h
  have hne : c.val ≠ c'.val := fun e => h (Fin.ext e)
  rw [Finset.disjoint_left]
  intro y
  rw [mem_half, mem_half]
  omega

theorem half_cover : (Finset.univ : Finset (Fin 2)).biUnion half = Finset.univ := by
  refine Finset.eq_univ_iff_forall.mpr fun y => Finset.mem_biUnion.mpr ⟨⟨(y 0).val / 131072 % 2, Nat.mod_lt _ (by decide)⟩, Finset.mem_univ _, ?_⟩
  rw [mem_half]

/-- What the call hands a SparseCore and takes back, the counts at `f`; -/
abbrev coreRes (d : Dev nD) (f : Buf (Elt F) (sLoc d)) (c : Fin 2) : sProp 𝕄 :=
  iprop((xLoc d ↦{cq c.val} m (xLoc d)) ∗ (rLoc d ↦{cq c.val} RM m d) ∗ (sLoc d ↦[half c]{fullShare} f))
/-- and a SparseCore a task. -/
abbrev taskRes (d : Dev nD) (f : Buf (Elt F) (sLoc d)) (c : Fin 2) (i : Fin 16) : sProp 𝕄 :=
  iprop((xLoc d ↦{tq c.val i.val} m (xLoc d)) ∗ (rLoc d ↦{tq c.val i.val} RM m d) ∗ (sLoc d ↦[part c i]{fullShare} f))

/-- The counts of the launch memory's scores. -/
abbrev SV (d : Dev nD) : Buf (Elt F) (sLoc d) := G3 (TH m d) (m (xLoc d))

/-- The call's payloads: out with the counts as the launch left them, back with the counts counted. -/
def P : (K (F := F)).Pay (nD := nD) (Val := Elt F) (Name := ℕ) (U := UU) where
  st := fun q d c => match q with | 0 => coreRes m d (m (sLoc d)) (Fin.cast nCore_zero c)
  dn := fun q d c => match q with | 0 => coreRes m d (SV m d) (Fin.cast nCore_zero c)
  go := fun q d c i => match q with | 0 => taskRes m d (m (sLoc d)) (Fin.cast nCore_zero c) (Fin.cast nSub_zero i)
  td := fun q d c i => match q with | 0 => taskRes m d (SV m d) (Fin.cast nCore_zero c) (Fin.cast nSub_zero i)
  x := fun _ _ => iprop(emp)

instance P_storable : (P (F := F) m).IsStorable where
  st q d c := match q with | 0 => inferInstanceAs (BI.Storable _ (coreRes m d (m (sLoc d)) (Fin.cast nCore_zero c)))
  dn q d c := match q with | 0 => inferInstanceAs (BI.Storable _ (coreRes m d (SV m d) (Fin.cast nCore_zero c)))
  go q d c i := match q with | 0 => inferInstanceAs (BI.Storable _ (taskRes m d (m (sLoc d)) (Fin.cast nCore_zero c) (Fin.cast nSub_zero i)))
  td q d c i := match q with | 0 => inferInstanceAs (BI.Storable _ (taskRes m d (SV m d) (Fin.cast nCore_zero c) (Fin.cast nSub_zero i)))

theorem defs₀_vector (c : Fin τ.nSC) (s : Fin τ.nSub) :
    defs₀ (F := F) (.scVector c s) 1 ()
      = SparseCore.onTile hcore1 hsub1 (fun c s => cc1__sc_kernel_body (coordsV c s)
          (Memref.whole main_arg0_scv) (Memref.isWhole_whole _) (Memref.whole main_v2_scv) (Memref.isWhole_whole _) (Memref.whole main_v3_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scratch7 cc1_scratch8 cc1_scoped0) ⟨⟩ c s := rfl

/-- Each task does its part. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body d (coordsV ⟨_, hci.1⟩ ⟨_, hci.2⟩) (m (xLoc d)) (RM m d) (m (sLoc d)) (TH m d) (tq c.val i.val) hF O W hO (RM_apply m d)

/-- A share of an array is sixteen read tokens and the rest. -/
theorem deal (ℓ : Loc nD τ sig) (q : PosShare TreeShare) (n : Nat) (f : Buf (Elt F) ℓ) :
    (ℓ ↦{q} f : sProp 𝕄) ⊣⊢ iprop((ℓ ↦{Transfers.shareDrop q n} f) ∗ bigSep Finset.univ fun i : Fin n => ℓ ↦{Transfers.shareTokN q i.val} f) :=
  Transfers.pointsTo_toks (ℓ := ℓ) (S := Finset.univ) (f := f) (Ix := HIx 1) (Val := Elt F) (Name := ℕ) (U := UU) (Lvl := ℕ) q n

/-- What a SparseCore has is what its tasks get and a remainder of the shares. -/
theorem core_tasks (d : Dev nD) (f : Buf (Elt F) (sLoc d)) (c : Fin 2) :
    coreRes m d f c ⊣⊢ iprop(((xLoc d ↦{Transfers.shareDrop (cq c.val) 16} m (xLoc d)) ∗ (rLoc d ↦{Transfers.shareDrop (cq c.val) 16} RM m d))
      ∗ bigSep Finset.univ fun i : Fin 16 => taskRes m d f c i) := by
  have hs : (sLoc d ↦[half c]{fullShare} f : sProp 𝕄) = bigSep Finset.univ fun i : Fin 16 => sLoc d ↦[part c i]{fullShare} f :=
    pointsTo_biUnion _ _ (part_disjoint c)
  have e : (bigSep Finset.univ fun i : Fin 16 => taskRes m d f c i)
      = iprop((bigSep Finset.univ fun i : Fin 16 => xLoc d ↦{Transfers.shareTokN (cq c.val) i.val} m (xLoc d))
        ∗ (bigSep Finset.univ fun i : Fin 16 => rLoc d ↦{Transfers.shareTokN (cq c.val) i.val} RM m d)
        ∗ bigSep Finset.univ fun i : Fin 16 => (sLoc d ↦[part c i]{fullShare} f : sProp 𝕄)) := by
    rw [← bigSep_sep', ← bigSep_sep']; rfl
  rw [e]
  unfold coreRes
  rw [hs]
  constructor
  · iintro ⟨Hx, Hr, Hs⟩
    ihave Hx := (deal (xLoc d) (cq c.val) 16 (m (xLoc d))).1 $$ Hx
    ihave Hr := (deal (rLoc d) (cq c.val) 16 (RM m d)).1 $$ Hr
    icases Hx with ⟨Hx, Hx'⟩
    icases Hr with ⟨Hr, Hr'⟩
    isplitl [Hx Hr]
    · isplitl [Hx]; · iexact Hx
      iexact Hr
    isplitl [Hx']; · iexact Hx'
    isplitl [Hr']; · iexact Hr'
    iexact Hs
  · iintro ⟨⟨Hx, Hr⟩, Hx', Hr', Hs⟩
    isplitl [Hx Hx']
    · iapply (deal (xLoc d) (cq c.val) 16 (m (xLoc d))).2
      isplitl [Hx]; · iexact Hx
      iexact Hx'
    isplitl [Hr Hr']
    · iapply (deal (rLoc d) (cq c.val) 16 (RM m d)).2
      isplitl [Hr]; · iexact Hr
      iexact Hr'
    iexact Hs

/-- A SparseCore's part goes out to its tasks and comes back from them. -/
theorem vecSplit : (K (F := F)).VecSplit' (P m) 0 := by
  intro d c
  show coreRes m d (m (sLoc d)) (Fin.cast nCore_zero c) ⊢ |={Set.univ}=> iprop(
      (bigSep (Finset.univ : Finset (Fin 16)) fun i => taskRes m d (m (sLoc d)) (Fin.cast nCore_zero c) i)
      ∗ ((bigSep (Finset.univ : Finset (Fin 16)) fun i => taskRes m d (SV m d) (Fin.cast nCore_zero c) i)
          -∗ coreRes m d (SV m d) (Fin.cast nCore_zero c)))
  iintro H
  ihave H := (core_tasks m d (m (sLoc d)) (Fin.cast nCore_zero c)).1 $$ H
  icases H with ⟨Hd, Ht⟩
  imodintro
  isplitl [Ht]; · iexact Ht
  iintro Ht
  iapply (core_tasks m d (SV m d) (Fin.cast nCore_zero c)).2
  isplitl [Hd]; · iexact Hd
  iexact Ht

/-- The arrays the call takes, whole, are what its SparseCores get and a remainder of the shares. -/
theorem call_cores (d : Dev nD) (f : Buf (Elt F) (sLoc d)) :
    iprop((xLoc d ↦{fullShare} m (xLoc d)) ∗ (rLoc d ↦{fullShare} RM m d) ∗ (sLoc d ↦{fullShare} f))
      ⊣⊢ iprop(((xLoc d ↦{Transfers.shareDrop fullShare 2} m (xLoc d)) ∗ (rLoc d ↦{Transfers.shareDrop fullShare 2} RM m d))
        ∗ bigSep Finset.univ fun c : Fin 2 => coreRes m d f c) := by
  have hs : (sLoc d ↦{fullShare} f : sProp 𝕄) = bigSep Finset.univ fun c : Fin 2 => sLoc d ↦[half c]{fullShare} f := by
    rw [← pointsTo_biUnion _ _ half_disjoint, half_cover]
  have e : (bigSep Finset.univ fun c : Fin 2 => coreRes m d f c)
      = iprop((bigSep Finset.univ fun c : Fin 2 => xLoc d ↦{Transfers.shareTokN fullShare c.val} m (xLoc d))
        ∗ (bigSep Finset.univ fun c : Fin 2 => rLoc d ↦{Transfers.shareTokN fullShare c.val} RM m d)
        ∗ bigSep Finset.univ fun c : Fin 2 => (sLoc d ↦[half c]{fullShare} f : sProp 𝕄)) := by
    rw [← bigSep_sep', ← bigSep_sep']; rfl
  rw [e, hs]
  constructor
  · iintro ⟨Hx, Hr, Hs⟩
    ihave Hx := (deal (xLoc d) fullShare 2 (m (xLoc d))).1 $$ Hx
    ihave Hr := (deal (rLoc d) fullShare 2 (RM m d)).1 $$ Hr
    icases Hx with ⟨Hx, Hx'⟩
    icases Hr with ⟨Hr, Hr'⟩
    isplitl [Hx Hr]
    · isplitl [Hx]; · iexact Hx
      iexact Hr
    isplitl [Hx']; · iexact Hx'
    isplitl [Hr']; · iexact Hr'
    iexact Hs
  · iintro ⟨⟨Hx, Hr⟩, Hx', Hr', Hs⟩
    isplitl [Hx Hx']
    · iapply (deal (xLoc d) fullShare 2 (m (xLoc d))).2
      isplitl [Hx]; · iexact Hx
      iexact Hx'
    isplitl [Hr Hr']
    · iapply (deal (rLoc d) fullShare 2 (RM m d)).2
      isplitl [Hr]; · iexact Hr
      iexact Hr'
    iexact Hs

end Deal

end Cert.Proof.Count

end
-- ==== Proof.Bodies.lean ====
/- The two TensorCore kernels' bodies, run once each over any staging memrefs. -/
module

public import proofs.«01_k».proof.Proof.Deal
public import proofs.«01_k».proof.Proof.Gen.KernelIdeal.Points
public import proofs.«01_k».proof.Proof.Gen.KernelIdeal.Skeleton
public import proofs.«01_k».proof.Proof.Gen.KernelIdeal.Launch
public import Idealize.ShloMosaic.Lib.Tactic
public import Idealize.ShloMosaic.Lib.Pipeline.Value
public import Idealize.ShloMosaic.Lib.Pipeline.ValueKit

@[expose] public section

noncomputable section

namespace Cert.Proof.Count

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A view stored to over its whole extent, from its origin, reads what was stored. -/
theorem read_store_all {sig' : RefSig} {κ : Kind} {sp : Space} {s : Shape} {e : EltTy} (v : View sig' κ sp s e) (f : v.ty.Contents (Elt F))
    (o : Fin s.rank → Nat) (b : ∀ a, o a + s.size a ≤ s.size a) (w : s.Idx → Elt F e) :
    v.read (Elt F) (v.writes (Elt F) f [⟨Rect.unit (s := s) o s.size b, w⟩]) = w := by
  have ho : o = fun _ => 0 := funext fun a => by have := b a; omega
  subst ho
  exact funext fun z => read_writes_all v f w z

/-- A load of a view's whole extent, from its origin, is what the view reads. -/
theorem load_all {sig' : RefSig} {κ : Kind} {sp : Space} {s : Shape} {e : EltTy} (v : View sig' κ sp s e) (f : v.ty.Contents (Elt F))
    (o : Fin s.rank → Nat) (b : ∀ a, o a + s.size a ≤ s.size a) :
    v.readAt (Elt F) (Rect.unit (s := s) o s.size b).toLoadRect f = v.read (Elt F) f := by
  have ho : o = fun _ => 0 := funext fun a => by have := b a; omega
  subst ho
  funext x
  show v.read (Elt F) f ((Rect.unit (s := s) (fun _ => 0) s.size b).emb x) = _
  congr 1
  funext a
  refine Fin.ext ?_
  rw [Rect.emb_apply]
  show 0 + 1 * (x a).val = (x a).val
  omega

/-- A word loaded from the thresholds. -/
def word {sig' : RefSig} {κ : Kind} {sp : Space} (v : View sig' κ sp S11 .f32) (f : v.ty.Contents (Elt F)) (o : Fin 1 → Nat)
    (b : ∀ a, o a + S1.size a ≤ S11.size a) : F .f32 :=
  v.readAt (Elt F) (Rect.unit (s := S11) o S1.size b).toLoadRect f (Shape.Idx.first (s := S1) (numel1_S1.symm ▸ Nat.one_pos))

theorem word_eq {sig' : RefSig} {κ : Kind} {sp : Space} (v : View sig' κ sp S11 .f32) (f : v.ty.Contents (Elt F)) (o : Fin 1 → Nat)
    (b : ∀ a, o a + S1.size a ≤ S11.size a) (j : Fin 11) (ho : o 0 = j.val) : word v f o b = v.read (Elt F) f (ix11 j) := by
  show v.read (Elt F) f ((Rect.unit (s := S11) o S1.size b).emb _) = _
  congr 1
  funext (a : Fin 1)
  obtain rfl : a = 0 := Subsingleton.elim _ _
  refine Fin.ext ?_
  rw [Rect.emb_apply]
  show o 0 + 1 * _ = j.val
  have : ((Shape.Idx.first (s := S1) (numel1_S1.symm ▸ Nat.one_pos)) 0).val < 1 := Fin.isLt _
  omega

/-- The copying kernel: what its first block holds is left in its second. -/
theorem copy_run (d : Dev nD) (i : grid2.Coords)
    (a1 : Memref sig .tc .hbm S16777216 .i32) (h1 : a1.IsWhole) (a2 : Memref sig .tc .vmem S2097152 .i32) (h2 : a2.IsWhole)
    (a3 : Memref sig .tc .vmem S2097152 .i32) (h3 : a3.IsWhole) (u v : S2097152.Idx → BitVec 32) (R : PUnit → sProp 𝕄) :
    iprop(owns (SparseCore.T d) a2 fullShare u ∗ owns (SparseCore.T d) a3 fullShare v
        ∗ (iprop(owns (SparseCore.T d) a2 fullShare u ∗ owns (SparseCore.T d) a3 fullShare u) -∗ R ⟨⟩))
      ⊢ wp frame (wpE (defs₀ (F := F)) 𝒱₀ (SparseCore.T d) none) Set.univ (cc2__merge_body (F := F) i a1 h1 a2 h2 a3 h3) R := by
  unfold owns
  iintro ⟨⟨%f2, %e2, H2⟩, ⟨%f3, %e3, H3⟩, Hk⟩
  rw [cc2__merge_body_eq_skeleton]
  sl_unfold [cc2__merge_body_skel]
  sl_exec
  sl_step
  iapply Hk
  isplitl [H2]
  · iexists f2; isplitr; · ipureintro; exact e2
    iexact H2
  iexists _; isplitr
  swap; · iexact H3
  ipureintro
  exact (read_store_all a3.view f3 _ _ _).trans ((Idealize.ShloMosaic.shapeCast_self _ _).trans ((load_all a2.view f2 _ _).trans e2))

/-- The counting kernel on one block. -/
theorem count_run (d : Dev nD) (i : grid0.Coords)
    (a1 : Memref sig .tc .smem S11 .f32) (h1 : a1.IsWhole) (a2 : Memref sig .tc .vmem S2097152 .f32) (h2 : a2.IsWhole)
    (a3 : Memref sig .tc .vmem S2097152 .i32) (h3 : a3.IsWhole) (tt : S11.Idx → F .f32) (u : S2097152.Idx → F .f32) (v : S2097152.Idx → BitVec 32)
    (R : PUnit → sProp 𝕄) :
    iprop(owns (SparseCore.T d) a1 fullShare tt ∗ owns (SparseCore.T d) a2 fullShare u ∗ owns (SparseCore.T d) a3 fullShare v
        ∗ (iprop(owns (SparseCore.T d) a1 fullShare tt ∗ owns (SparseCore.T d) a2 fullShare u
            ∗ owns (SparseCore.T d) a3 fullShare (fun y => cnt (fun j => tt (ix11 j)) (u y))) -∗ R ⟨⟩))
      ⊢ wp frame (wpE (defs₀ (F := F)) 𝒱₀ (SparseCore.T d) none) Set.univ (cc0__tc_kernel_body (F := F) i a1 h1 a2 h2 a3 h3) R := by
  unfold owns
  iintro ⟨⟨%f1, %e1, H1⟩, ⟨%f2, %e2, H2⟩, ⟨%f3, %e3, H3⟩, Hk⟩
  rw [cc0__tc_kernel_body_eq_skeleton]
  sl_unfold [cc0__tc_kernel_body_skel, k0_part1]
  sl_exec
  sl_step
  iapply Hk
  isplitl [H1]
  · iexists f1; isplitr; · ipureintro; exact e1
    iexact H1
  isplitl [H2]
  · iexists f2; isplitr; · ipureintro; exact e2
    iexact H2
  iexists _; isplitr
  swap; · iexact H3
  ipureintro
  refine (read_store_all a3.view f3 _ _ _).trans ?_
  funext y
  have ex : ∀ b, a2.view.readAt (Elt F) (Rect.unit (s := S2097152) ![0] S2097152.size b).toLoadRect f2 y = u y := fun b =>
    congrFun ((load_all a2.view f2 _ b).trans e2) y
  have ew : ∀ o b j, o 0 = (j : Fin 11).val → word a1.view f1 o b = tt (ix11 j) := fun o b j ho =>
    (word_eq a1.view f1 o b j ho).trans (congrFun e1 _)
  rw [← ex inb_S2097152_S2097152_0]
  unfold cnt
  beta_reduce
  rw [← ew ![0] inb_S11_S1_0 0 rfl, ← ew ![1] inb_S11_S1_1 1 rfl, ← ew ![2] inb_S11_S1_2 2 rfl, ← ew ![3] inb_S11_S1_3 3 rfl,
    ← ew ![4] inb_S11_S1_4 4 rfl, ← ew ![5] inb_S11_S1_5 5 rfl, ← ew ![6] inb_S11_S1_6 6 rfl, ← ew ![7] inb_S11_S1_7 7 rfl,
    ← ew ![8] inb_S11_S1_8 8 rfl, ← ew ![9] inb_S11_S1_9 9 rfl, ← ew ![10] inb_S11_S1_10 10 rfl]
  rfl

end Cert.Proof.Count

end
-- ==== Proof.Regions.lean ====
/-
  The two TensorCore regions: what each window's array and staging buffers hold, the kernels' bodies at a symbolic
  point of their grids, what the written arrays hold once every block is written back, and the two regions as the
  regions kit takes them. The core's debts to the SparseCores ride along.
-/
module

public import proofs.«01_k».proof.Proof.Bodies
public import Idealize.ShloMosaic.Lib.Pipeline.FrameBody
public import Idealize.ShloMosaic.Lib.Pipeline.RegionArrays
public import Idealize.ShloMosaic.Lib.Pipeline.ValueKit.Geometry
public import Idealize.ShloMosaic.Lib.Pipeline.ValueKit.Partial

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Regions

variable (m : (ℓ : Loc nD τ sig) → Buf (Elt F) ℓ)

/-! ## What the arrays come to hold -/

/-- The counts the first kernel leaves: its six blocks counted, the first two as the launch left them; -/
def PV (d : Dev nD) : Buf (Elt F) (pLoc d) := fun y => if 2 ≤ (y 0).val / 2097152 then cnt (TH m d) (m (xLoc d) y) else m (pLoc d) y
/-- and the result. -/
def OV (d : Dev nD) : Buf (Elt F) (oLoc d) := fun y => cnt (TH m d) (m (xLoc d) y)

/-! ## The proof data -/

/-- The pairs a core may have waited on before call `n`. -/
def rec' (d : Dev nD) (n : ℕ) : Set (SemLoc sig × HIx 1) := {p | (K (F := F)).lev (SparseCore.T d, p.1) p.2 ≤ 8 * n}

/-- The counting pipeline: the thresholds and the scores read, a block of counts left at each point. -/
def dat0 (c : Dev nD) : Pipeline.Dat τ (Elt F) (HIx 1) ℕ UU ℕ cfg0 c where
  A := fun
    | 0 => m (tLoc c)
    | 1 => m (xLoc c)
    | 2 => m (pLoc c)
    | ⟨_ + 3, h⟩ => absurd h (Nat.not_lt.2 (Nat.le_add_left _ _))
  after := fun
    | 0 => fun t => (win0_0.blk t).view.read (Elt F) (m (tLoc c))
    | 1 => fun t => (win0_1.blk t).view.read (Elt F) (m (xLoc c))
    | 2 => fun t y => cnt (fun j => (win0_0.blk t).view.read (Elt F) (m (tLoc c)) (ix11 j)) ((win0_1.blk t).view.read (Elt F) (m (xLoc c)) y)
    | ⟨_ + 3, h⟩ => absurd h (Nat.not_lt.2 (Nat.le_add_left _ _))
  Φ := fun _ => Pipeline.scopedRest spec0 c
  q := fun _ => fullShare
  owed := fun _ => (K (F := F)).Otc c 0
  recorded := fun _ => rec' (F := F) c 0

/-- The merging pipeline: a block of the SparseCores' counts copied at each point. -/
def dat1 (c : Dev nD) : Pipeline.Dat τ (Elt F) (HIx 1) ℕ UU ℕ cfg2 c where
  A := fun
    | 0 => SV m c
    | 1 => PV m c
    | ⟨_ + 2, h⟩ => absurd h (Nat.not_lt.2 (Nat.le_add_left _ _))
  after := fun
    | 0 => fun t => (win2_0.blk t).view.read (Elt F) (SV m c)
    | 1 => fun t => (win2_0.blk t).view.read (Elt F) (SV m c)
    | ⟨_ + 2, h⟩ => absurd h (Nat.not_lt.2 (Nat.le_add_left _ _))
  Φ := fun _ => Pipeline.scopedRest spec2 c
  q := fun _ => fullShare
  owed := fun _ => (K (F := F)).Otc c 1
  recorded := fun _ => rec' (F := F) c 1

/-- No pipeline has a prefetched table. -/
abbrev adm : (p : Fin 2) → (pcfgs (F := F) p).Adm := fun p => (cfgs p).toPCfg_adm
def pdats : (p : Fin 2) → (c : Dev nD) → Pipeline.Dat τ (Elt F) (HIx 1) ℕ UU ℕ (Pipeline.pin (pcfgs (F := F)) adm p) c
  | 0 => dat0 m
  | 1 => dat1 m

/-! ## The bodies, at a point -/

theorem before0_0 (c : Dev nD) (t : Fin cfg0.N) (d) : (dat0 m c).before 0 t d = (win0_0.blk t).view.read (Elt F) (m (tLoc c)) :=
  (dat0 m c).before_in_eq_fetched 0 rfl (fun _ => rfl) (fun _ _ _ => rfl) (fun _ => rfl) t d
theorem before0_1 (c : Dev nD) (t : Fin cfg0.N) (d) : (dat0 m c).before 1 t d = (win0_1.blk t).view.read (Elt F) (m (xLoc c)) :=
  (dat0 m c).before_fetched 1 t (fetch0_1 t) d
theorem before2_0 (c : Dev nD) (t : Fin cfg2.N) (d) : (dat1 m c).before 0 t d = (win2_0.blk t).view.read (Elt F) (SV m c) :=
  (dat1 m c).before_fetched 0 t (fetch2_0 t) d

theorem body0 (c : Dev nD) : Pipeline.BodyObligation (dat0 m c) (defs₀ (F := F)) 𝒱₀ (none : HIx 1) Set.univ := fun t => by
  rw [bigSep_W0, bigSep_W0, show (dat0 m c).Φ t.succ = (dat0 m c).Φ t.castSucc from rfl,
    show (dat0 m c).owesAt none t.succ = (dat0 m c).owesAt none t.castSucc from rfl]
  iintro ⟨HΦ, HO, ⟨%d0, H0⟩, ⟨%d1, H1⟩, ⟨%d2, H2⟩⟩
  rw [before0_0, before0_1]
  iapply (count_run c (grid0.coords t) _ _ _ _ _ _ _ _ _ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

theorem body2 (c : Dev nD) : Pipeline.BodyObligation (dat1 m c) (defs₀ (F := F)) 𝒱₀ (none : HIx 1) Set.univ := fun t => by
  rw [bigSep_W2, bigSep_W2, show (dat1 m c).Φ t.succ = (dat1 m c).Φ t.castSucc from rfl,
    show (dat1 m c).owesAt none t.succ = (dat1 m c).owesAt none t.castSucc from rfl]
  iintro ⟨HΦ, HO, ⟨%d0, H0⟩, ⟨%d1, H1⟩⟩
  rw [before2_0]
  iapply (copy_run c (grid2.coords t) (Memref.whole main_v0) (Memref.isWhole_whole _) (win2_0.stage (cfg2.slots t 0))
    (hstage2_0 ((cfg2.slots t 0).cast nbuf2_0)) (win2_1.stage (cfg2.slots t 1)) (hstage2_1 ((cfg2.slots t 1).cast nbuf2_1)) _ _ _)
  isplitl [H0]; · iexact H0
  isplitl [H1]; · iexact H1
  iintro ⟨H0, H1⟩
  isplitl [HΦ]; · iexact HΦ
  isplitl [HO]; · iexact HO
  isplitl [H0]; · iexact H0
  iexact H1

/-! ## The arrays after the last write-back -/

theorem ix0_0 : ∀ t : Fin cfg0.N, win0_0.index t = ![0] := (by decide +kernel : ∀ t : Fin grid0.N, win0_0.index t = ![0])
theorem ix0_1 : ∀ t : Fin cfg0.N, win0_1.index t = ![2 + t.val] := (by decide +kernel : ∀ t : Fin grid0.N, win0_1.index t = ![2 + t.val])
theorem ix0_2 : ∀ t : Fin cfg0.N, win0_2.index t = ![2 + t.val] := (by decide +kernel : ∀ t : Fin grid0.N, win0_2.index t = ![2 + t.val])
theorem ix2_0 : ∀ t : Fin cfg2.N, win2_0.index t = ![t.val] := (by decide +kernel : ∀ t : Fin grid2.N, win2_0.index t = ![t.val])
theorem ix2_1 : ∀ t : Fin cfg2.N, win2_1.index t = ![t.val] := (by decide +kernel : ∀ t : Fin grid2.N, win2_1.index t = ![t.val])

theorem emb0_0 (t : Fin cfg0.N) (j : Fin 11) : (win0_0.blk t).view.emb (ix11 j) = ix11 j := by
  blk_ext [ix0_0]
theorem emb0_1 (t : Fin cfg0.N) (y : S2097152.Idx) : ((win0_1.blk t).view.emb y : S16777216.Idx) = (win0_2.blk t).view.emb y := by
  blk_ext [ix0_1, ix0_2]

theorem after0_2 (c : Dev nD) (t : Fin cfg0.N) (y : S2097152.Idx) : (dat0 m c).after 2 t y
    = cnt (fun j => m (tLoc c) ((win0_0.blk t).view.emb (ix11 j))) (m (xLoc c) ((win0_1.blk t).view.emb y)) := rfl

theorem final0 (c : Dev nD) : (dat0 m c).arrAt 2 cfg0.N = PV m c := by
  refine (dat0 m c).arrAt_eq_of_coversWhere 2 (OV m c) (fun β => 2 ≤ β (0 : Fin 1)) (by decide +kernel) (fun t hf y => ?_) (fun j => ?_)
  · blk_simp
    refine (after0_2 m c t y).trans ?_
    exact congrArg₂ cnt (funext fun j => congrArg (m (tLoc c)) (emb0_0 t j)) (congrArg (m (xLoc c)) (emb0_1 t y))
  · blk_simp [Pipeline.Window.cell_apply]

theorem after2_1 (c : Dev nD) (t : Fin cfg2.N) (y : S2097152.Idx) : (dat1 m c).after 1 t y
    = cnt (TH m c) (m (xLoc c) (at' ((win2_0.blk t).view.emb y 0).val)) := rfl

theorem emb2 (t : Fin cfg2.N) (y : S2097152.Idx) : at' ((win2_0.blk t).view.emb y 0).val = (win2_1.blk t).view.emb y := by
  funext (a : Fin 1)
  match a with
  | 0 =>
    apply Fin.ext
    show ((win2_0.blk t).view.emb y 0).val % 16777216 = ((win2_1.blk t).view.emb y 0).val
    blk_simp [ix2_0, ix2_1]
    have ht : t.val < 2 := t.isLt
    have hy : (y 0).val < 2097152 := (y 0).isLt
    omega

theorem final2 (c : Dev nD) : (dat1 m c).arrAt 1 cfg2.N = OV m c := by
  refine (dat1 m c).arrAt_eq_of_coversWhere_of_agree 1 (OV m c) (fun β => β (0 : Fin 1) < 2) (by decide +kernel) (fun t hf y => ?_) (fun j hj => ?_)
  · blk_simp
    refine (after2_1 m c t y).trans ?_
    exact congrArg (fun z => cnt (TH m c) (m (xLoc c) z)) (emb2 t y)
  · blk_simp [Pipeline.Window.cell_apply] at hj
    exact if_pos (Nat.le_of_not_lt hj)

/-! ## The regions -/

/-- What a core owes around call `n`, and the waits it may have recorded. -/
abbrev owing (c : Dev nD) (n : ℕ) : sProp 𝕄 :=
  iprop(∃ W, ⌜(K (F := F)).WBelow (SparseCore.T c) W (8 * n)⌝ ∗ owes (SparseCore.T c) ((K (F := F)).Otc c n) W)

theorem lev_none' (g : GSem nD τ sig) (b : ℕ) : (K (F := F)).lev g (none : HIx 1) ≤ b := Nat.zero_le _

theorem Otc_none (c : Dev nD) (n : ℕ) (g : GSem nD τ sig) : (K (F := F)).Otc (N := 1) c n g none = 0 := by
  by_contra h
  exact absurd ((K (F := F)).lev_of_Otc_pos (Nat.pos_of_ne_zero h)) (by show ¬ _ ≤ 0; omega)

theorem owes_in {cfg : Pipeline.Cfg sig Λ₀} {c : Dev nD} (dat : Pipeline.Dat τ (Elt F) (HIx 1) ℕ UU ℕ cfg c) (t : Fin (cfg.N + 1)) (n : ℕ)
    (ho : dat.owed t = (K (F := F)).Otc c n) (hr : dat.recorded t = rec' (F := F) c n) : (owing c n : sProp 𝕄) ⊢ dat.owesAt (none : HIx 1) t := by
  unfold Pipeline.Dat.owesAt Pipeline.owesWithin Pipeline.Dat.bound
  rw [ho, hr]
  iintro ⟨%W, %hW, HO⟩
  iexists W
  isplitr
  · ipureintro; exact fun p hp => Or.inl (hW p hp)
  iexact HO

theorem owes_out {cfg : Pipeline.Cfg sig Λ₀} {c : Dev nD} (dat : Pipeline.Dat τ (Elt F) (HIx 1) ℕ UU ℕ cfg c) (t : Fin (cfg.N + 1)) (n : ℕ)
    (ho : dat.owed t = (K (F := F)).Otc c n) (hr : dat.recorded t = rec' (F := F) c n) : (dat.owesAt (none : HIx 1) t : sProp 𝕄) ⊢ owing c n := by
  unfold Pipeline.Dat.owesAt Pipeline.owesWithin Pipeline.Dat.bound
  rw [ho, hr]
  iintro ⟨%W, %hW, HO⟩
  iexists W
  isplitr
  · ipureintro
    intro p hp
    rcases hW hp with h | ⟨w, s, rfl⟩
    · exact h
    · exact lev_none' _ _
  iexact HO

theorem arrays0 (c : Dev nD) (f0 : Buf (Elt F) (tLoc c)) (f1 : Buf (Elt F) (xLoc c)) (f2 : Buf (Elt F) (pLoc c)) (G)
    (h0 : G 0 = f0) (h1 : G 1 = f1) (h2 : G 2 = f2) :
    ((pdats m 0 c).arrays G : sProp 𝕄) = iprop((tLoc c ↦{fullShare} f0) ∗ (xLoc c ↦{fullShare} f1) ∗ (pLoc c ↦{fullShare} f2)) := by
  rw [Pipeline.arrays_eq (Pipeline.pin (pcfgs (F := F)) adm) (pdats m) 0 c arr_whole0 (fun w => by unfold Pipeline.Dat.share; split <;> rfl) G]
  refine (bigSep_W0 _).trans ?_
  rw [h0, h1, h2]
  rfl

theorem arrays2 (c : Dev nD) (f0 : Buf (Elt F) (sLoc c)) (f1 : Buf (Elt F) (oLoc c)) (G) (h0 : G 0 = f0) (h1 : G 1 = f1) :
    ((pdats m 1 c).arrays G : sProp 𝕄) = iprop((sLoc c ↦{fullShare} f0) ∗ (oLoc c ↦{fullShare} f1)) := by
  rw [Pipeline.arrays_eq (Pipeline.pin (pcfgs (F := F)) adm) (pdats m) 1 c arr_whole2 (fun w => by unfold Pipeline.Dat.share; split <;> rfl) G]
  refine (bigSep_W2 _).trans ?_
  rw [h0, h1]
  rfl

theorem Phi0 (c : Dev nD) (t) : (pdats m 0 c).Φ t = Pipeline.scopedRest (Pipeline.pin (pcfgs (F := F)) adm 0).spec c := rfl
theorem Phi1 (c : Dev nD) (t) : (pdats m 1 c).Φ t = Pipeline.scopedRest (Pipeline.pin (pcfgs (F := F)) adm 1).spec c := rfl

/-- The counting region. -/
def reg0 : Pipeline.RegionSeg (pcfgs (F := F)) adm (pdats m) (none : HIx 1) defs₀ 𝒱₀ (K (F := F)).L (K (F := F)).lev 0 where
  win := launch0.win.to₀
  block_pos := block_pos0
  stage_whole := stage_whole0
  K := PEmpty
  osem k := k.elim
  ho := Pipeline.OwnSemFacts.none _
  hbody c := (body0 m c).loose
  hwaits c := Pipeline.cellsWaits_intro (Pipeline.pin (pcfgs (F := F)) adm) (pdats m) none 0 c fun w s t =>
    (K (F := F)).mayWait_none _ (Otc_none c 0)
  pre c := iprop((tLoc c ↦{fullShare} m (tLoc c)) ∗ (xLoc c ↦{fullShare} m (xLoc c)) ∗ (pLoc c ↦{fullShare} m (pLoc c)) ∗ owing c 0)
  post c := iprop((tLoc c ↦{fullShare} m (tLoc c)) ∗ (xLoc c ↦{fullShare} m (xLoc c)) ∗ (pLoc c ↦{fullShare} PV m c) ∗ owing c 0)
  X _ := iprop(emp)
  Y _ := iprop(emp)
  Z _ := iprop(emp)
  hentry c := by
    rw [Pipeline.ownSems0_none, arrays0 m c _ _ _ _ rfl rfl rfl, Pipeline.prefHeld_of_none _ rfl]
    iintro ⟨⟨Ht, Hx, Hp, HO⟩, -, -⟩
    imodintro
    isplitl [Ht Hx Hp]
    · isplitl [Ht]; · iexact Ht
      isplitl [Hx]; · iexact Hx
      iexact Hp
    isplitr; · iempintro
    isplitl [HO]; · iapply (owes_in (pdats m 0 c) 0 0 rfl rfl); iexact HO
    isplitr <;> iempintro
  hin c := by
    rw [Phi0]
    iintro ⟨-, -, H⟩; iexact H
  hout c := by
    rw [Phi0, Pipeline.ownSems0_none]
    iintro H
    isplitr; · iempintro
    isplitr; · iempintro
    iexact H
  hexit c := by
    rw [arrays0 m c _ _ _ _ ((dat0 m c).arrAt_in 0 rfl _) ((dat0 m c).arrAt_in 1 rfl _) (final0 m c)]
    iintro ⟨⟨Ht, Hx, Hp⟩, HO, -, -⟩
    imodintro
    isplitl [Ht]; · iexact Ht
    isplitl [Hx]; · iexact Hx
    isplitl [Hp]; · iexact Hp
    iapply (owes_out (pdats m 0 c) _ 0 rfl rfl); iexact HO

/-- The merging region. -/
def reg2 : Pipeline.RegionSeg (pcfgs (F := F)) adm (pdats m) (none : HIx 1) defs₀ 𝒱₀ (K (F := F)).L (K (F := F)).lev 1 where
  win := launch2.win.to₀
  block_pos := block_pos2
  stage_whole := stage_whole2
  K := PEmpty
  osem k := k.elim
  ho := Pipeline.OwnSemFacts.none _
  hbody c := (body2 m c).loose
  hwaits c := Pipeline.cellsWaits_intro (Pipeline.pin (pcfgs (F := F)) adm) (pdats m) none 1 c fun w s t =>
    (K (F := F)).mayWait_none _ (Otc_none c 1)
  pre c := iprop((sLoc c ↦{fullShare} SV m c) ∗ (oLoc c ↦{fullShare} PV m c) ∗ owing c 1)
  post c := iprop((sLoc c ↦{fullShare} SV m c) ∗ (oLoc c ↦{fullShare} OV m c) ∗ owing c 1)
  X _ := iprop(emp)
  Y _ := iprop(emp)
  Z _ := iprop(emp)
  hentry c := by
    rw [Pipeline.ownSems0_none, arrays2 m c _ _ _ rfl rfl, Pipeline.prefHeld_of_none _ rfl]
    iintro ⟨⟨Hs, Ho, HO⟩, -, -⟩
    imodintro
    isplitl [Hs Ho]
    · isplitl [Hs]; · iexact Hs
      iexact Ho
    isplitr; · iempintro
    isplitl [HO]; · iapply (owes_in (pdats m 1 c) 0 1 rfl rfl); iexact HO
    isplitr <;> iempintro
  hin c := by
    rw [Phi1]
    iintro ⟨-, -, H⟩; iexact H
  hout c := by
    rw [Phi1, Pipeline.ownSems0_none]
    iintro H
    isplitr; · iempintro
    isplitr; · iempintro
    iexact H
  hexit c := by
    rw [arrays2 m c _ _ _ ((dat1 m c).arrAt_in 0 rfl _) (final2 m c)]
    iintro ⟨⟨Hs, Ho⟩, HO, -, -⟩
    imodintro
    isplitl [Hs]; · iexact Hs
    isplitl [Ho]; · iexact Ho
    iapply (owes_out (pdats m 1 c) _ 1 rfl rfl); iexact HO

end Regions

end Cert.Proof.Count

end
-- ==== Proof.Main.lean ====
/-
  `@main` on the TensorCore (the counting region, the thresholds repeated, the SparseCore call, the copy, the merging
  region) and the program's run: from any memory every execution ends with the scores and the thresholds as they
  were, the result at the counts of the launch memory's scores, and every semaphore at zero.
-/
module

public import proofs.«01_k».proof.Proof.Regions

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Main

variable (m : (ℓ : Loc nD τ sig) → Buf (Elt F) ℓ) (ρ : Dev nD → PrngReg)

/-! ## The ghost state the launch hands over -/

/-- The two pipelines' staging cells lie apart. -/
theorem cells_apart : Function.Injective (Pipeline.cellOf (nD := nD) (τ := τ) (Pipeline.pin (pcfgs (F := F)) adm)) := cellOf_inj

/-- What a core needs to enter pipeline `p`, -/
abbrev entry (d : Dev nD) (p : Fin 2) : sProp 𝕄 :=
  iprop(Pipeline.cellsGhost (Pipeline.pin (pcfgs (F := F)) adm) EP p d ∗ Pipeline.toksInit (Pipeline.pin (pcfgs (F := F)) adm) EP p d)
/-- and each of the two. -/
abbrev G (d : Dev nD) : sProp 𝕄 := iprop(entry d 0 ∗ entry d 1)

/-- The launch's element of the algebra: the handshakes' rounds, the pipelines', no counter. -/
def u₀ : UU :=
  (initOf (K (F := F)).hsCells (K (F := F)).hsToks,
    initOf (Pipeline.cells (Pipeline.pin (pcfgs (F := F)) adm) cells_apart) (Pipeline.launchToks (Pipeline.pin (pcfgs (F := F)) adm) cells_apart), 1)

theorem both (Φ : Fin 2 → sProp 𝕄) : bigSep Finset.univ Φ = iprop(Φ 0 ∗ Φ 1) := by
  rw [show (Finset.univ : Finset (Fin 2)) = {0, 1} by decide, SparseCore.bigSep_insert' (by decide), bigSep_singleton]

omit [FloatOps F] in
theorem dev_one (Φ : Dev nD → sProp 𝕄) : bigSep Finset.univ Φ = Φ 0 := bigSep_univ_of_subsingleton (0 : Fin 1)

omit [FloatOps F] in
theorem none_held {I : Type} (s : Finset I) : (bigSep s fun _ => iprop(emp)) = (iprop(emp) : sProp 𝕄) := bigSep_emp_const s

theorem own_EP (u : UPipe) : (BI.own (((Emb.inl : Emb UPipe (UPipe × Counters)).trans (embR (A := UH) (B := UPipe × Counters))) u) : sProp 𝕄) = BI.own (EP u) := rfl

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  ihave HP := (Entails.of_eq (own_EP (F := F) _)) $$ HP
  imod (Pipeline.fund_ghost (Pipeline.pin (pcfgs (F := F)) adm) EP cells_apart) $$ HP with ⟨Hg, Ht⟩
  imodintro
  isplitl [HH]; · iexact HH
  isplitl [Hg Ht]
  · ihave Hg := (Entails.of_eq ((dev_one _).trans (both _))) $$ Hg
    ihave Ht := (Entails.of_eq ((dev_one _).trans (both _))) $$ Ht
    iapply (Entails.of_eq (dev_one (G (F := F))).symm)
    icases Hg with ⟨Hg0, Hg1⟩
    icases Ht with ⟨Ht0, Ht1⟩
    isplitl [Hg0 Ht0]
    · isplitl [Hg0] <;> iassumption
    isplitl [Hg1] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_held]
  iempintro

/-! ## One step of `@main` at a time -/

/-- A region run where it is written: from the boundary and the region's start to the boundary and its end. -/
theorem region_inner [∀ e, Nonempty (Elt F e)] {p : Fin 2}
    (R : Pipeline.RegionSeg (pcfgs (F := F)) adm (pdats m) (none : HIx 1) defs₀ 𝒱₀ (K (F := F)).L (K (F := F)).lev p) (d : Dev nD) (Φ : PUnit → sProp 𝕄) :
    iprop((iprop(boundary (SparseCore.T d) ∗ R.post d) -∗ wp frame (wpE (D (F := F)) 𝒱 (SparseCore.T d) none) Set.univ (Prog.ret PUnit.unit) Φ)
        ∗ boundary (SparseCore.T d) ∗ R.pre d ∗ levAts (K (F := F)).L (K (F := F)).lev ∗ entry d p)
      ⊢ wp frame (wpE (D (F := F)) 𝒱 (SparseCore.T d) none) Set.univ (Prog.op (TpuEff.customCall (Pipeline.entry p) ()) fun _ => Prog.ret PUnit.unit) Φ := by
  have hv : ∀ u ∈ (none : Option 𝒱.V), 𝒱.lt (.inr ((Pipeline.pin (pcfgs (F := F)) adm p).tripCount + 1)) u := fun u hu => absurd hu (Option.not_mem_none u)
  have H := Pipeline.RegionSeg.wp (pcfgs (F := F)) adm (pdats m) (none : HIx 1) cells_apart EP defs₀ 𝒱₀ (K (F := F)).L (K (F := F)).lev
    R d none hv (fun _ => Prog.ret PUnit.unit) Φ
  exact H

/-- A TensorCore region of `@main`. -/
theorem region_step [∀ e, Nonempty (Elt F e)] {p : Fin 2}
    (R : Pipeline.RegionSeg (pcfgs (F := F)) adm (pdats m) (none : HIx 1) defs₀ 𝒱₀ (K (F := F)).L (K (F := F)).lev p) (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev ∗ entry d p)
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none (Prog.lift (.customCall (Pipeline.entry p) ())) Φ)
  refine BI.Entails.trans ?_ (region_inner m R d Φ)
  show (_ : sProp 𝕄) ⊢ _
  iintro ⟨Hk, H⟩
  isplitl [Hk]
  · iintro H
    rw [wp_ret]
    imodintro
    iapply Hk
    iexact H
  iexact H

/-- The device's reference of a TensorCore's buffer. -/
abbrev ref (b : Ref sig .tc) : DevRef τ sig := Proc.devRef .tc b

theorem held_two (d : Dev nD) {x y : Ref sig .tc} (h : x ≠ y) (W : Valuation τ sig (Elt F)) :
    (held (SparseCore.T d) {ref x, ref y} W : sProp 𝕄)
      = iprop(((SparseCore.T d).loc x ↦{fullShare} W (ref x)) ∗ (SparseCore.T d).loc y ↦{fullShare} W (ref y)) := by
  unfold held
  rw [SparseCore.bigSep_insert' (by rw [Finset.mem_singleton]; exact StableHlo.devRef_ne_of_ne h), bigSep_singleton]

/-- A host operation reading one array and writing another. -/
theorem hlo_step (d : Dev nD) {x y : Ref sig .tc} (h : x ≠ y) (op : HloOp τ sig (Elt F)) (hb : op.bufs ⊆ {ref x, ref y}) (hf : op.fresh = ∅)
    (V : Valuation τ sig (Elt F)) (Φ : PUnit → sProp 𝕄) :
    iprop((iprop(boundary (SparseCore.T d) ∗ ((SparseCore.T d).loc x ↦{fullShare} op.result V (ref x)) ∗ ((SparseCore.T d).loc y ↦{fullShare} op.result V (ref y))) -∗ Φ ⟨⟩)
        ∗ boundary (SparseCore.T d) ∗ ((SparseCore.T d).loc x ↦{fullShare} V (ref x)) ∗ ((SparseCore.T d).loc y ↦{fullShare} V (ref y)))
      ⊢ wp frame (wpE ((K (F := F)).defs (D (F := F))) 𝒱 (SparseCore.T d) none) Set.univ (hlo rfl op (fun _ => .ret ⟨⟩)) Φ := by
  rw [← held_two d h, ← held_two d h]
  iintro ⟨Hk, H⟩
  iapply (wp_hlo_within 𝒱 (SparseCore.T d) none Set.univ (op := op) (S := {ref x, ref y}) hb (V := V) hf) $$ H
  iintro H
  rw [wp_ret]
  imodintro
  iapply Hk
  iexact H

/-- A TensorCore's buffer by location. -/
abbrev at_ (d : Dev nD) (x : Ref sig .tc) : Loc nD τ sig := (SparseCore.T d).loc x

/-- The contents with `f` at `x` and `g` at `y`. -/
def two (d : Dev nD) (x y : Ref sig .tc) (f : Buf (Elt F) (at_ d x)) (g : Buf (Elt F) (at_ d y)) : Valuation τ sig (Elt F) :=
  Function.update (Function.update (fun b => m (d, b)) (ref x) f) (ref y) g

theorem two_x (d : Dev nD) {x y : Ref sig .tc} (h : x ≠ y) (f g) : two m d x y f g (ref x) = f :=
  (Function.update_of_ne (StableHlo.devRef_ne_of_ne h) _ _).trans (Function.update_self _ _ _)
theorem two_y (d : Dev nD) {x y : Ref sig .tc} (f g) : two m d x y f g (ref y) = g := Function.update_self _ _ _

include m in
theorem unary_step (d : Dev nD) {x y : Ref sig .tc} (h : x ≠ y) (φ : x.ty.Contents (Elt F) → y.ty.Contents (Elt F)) (hx hy)
    (f : Buf (Elt F) (at_ d x)) (g : Buf (Elt F) (at_ d y)) (Φ : PUnit → sProp 𝕄) :
    iprop((iprop(boundary (SparseCore.T d) ∗ ((SparseCore.T d).loc x ↦{fullShare} f) ∗ ((SparseCore.T d).loc y ↦{fullShare} φ f)) -∗ Φ ⟨⟩)
        ∗ boundary (SparseCore.T d) ∗ ((SparseCore.T d).loc x ↦{fullShare} f) ∗ ((SparseCore.T d).loc y ↦{fullShare} g))
      ⊢ wp frame (wpE ((K (F := F)).defs (D (F := F))) 𝒱 (SparseCore.T d) none) Set.univ (hlo rfl (StableHlo.unary x y φ hx hy) (fun _ => .ret ⟨⟩)) Φ := by
  have H := hlo_step d h (StableHlo.unary x y φ hx hy) (Finset.Subset.refl _) rfl (two m d x y f g) Φ
  rw [StableHlo.unary_result, StableHlo.unary_result_ne _ _ _ _ _ _ h, two_x m d h, two_y] at H
  exact H

include m in
theorem reshape_step (d : Dev nD) {x y : Ref sig .tc} (h : x ≠ y) (he : x.ty.elt = y.ty.elt) (hn : x.ty.shape.ShapeCasts y.ty.shape) (hx hy)
    (f : Buf (Elt F) (at_ d x)) (g : Buf (Elt F) (at_ d y)) (Φ : PUnit → sProp 𝕄) :
    iprop((iprop(boundary (SparseCore.T d) ∗ ((SparseCore.T d).loc x ↦{fullShare} f)
            ∗ ((SparseCore.T d).loc y ↦{fullShare} (fun i => he ▸ shapeCast y.ty.shape (f : x.ty.Contents (Elt F)) hn i : y.ty.Contents (Elt F)))) -∗ Φ ⟨⟩)
        ∗ boundary (SparseCore.T d) ∗ ((SparseCore.T d).loc x ↦{fullShare} f) ∗ ((SparseCore.T d).loc y ↦{fullShare} g))
      ⊢ wp frame (wpE ((K (F := F)).defs (D (F := F))) 𝒱 (SparseCore.T d) none) Set.univ (hlo rfl (StableHlo.reshape x y he hn hx hy) (fun _ => .ret ⟨⟩)) Φ := by
  have H := hlo_step d h (StableHlo.reshape x y he hn hx hy) (Finset.Subset.refl _) rfl (two m d x y f g) Φ
  rw [StableHlo.reshape_result, StableHlo.reshape_result_ne _ _ _ _ _ _ _ h, two_x m d h, two_y] at H
  exact H

/-! ## `@main` -/

theorem arrays_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (pLoc d ↦{fullShare} W main_v0)
      ∗ (wLoc d ↦{fullShare} W main_v1) ∗ (rLoc d ↦{fullShare} W main_v2) ∗ (sLoc d ↦{fullShare} W main_v3) ∗ oLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The debts are a part of what the call's bookkeeping holds. -/
theorem tcSt_owing (d : Dev nD) (n : ℕ) : ∃ R : sProp 𝕄, (K (F := F)).tcSt EH d n = iprop(owing d n ∗ R) := ⟨_, rfl⟩

/-- What the call takes for the SparseCores, and what it hands back. -/
theorem st_eq (d : Dev nD) : (bigSep Finset.univ fun c : Fin ((K (F := F)).nCore 0) => (P m).st 0 d c) = bigSep Finset.univ fun c : Fin 2 => coreRes m d (m (sLoc d)) c := rfl
theorem dn_eq (d : Dev nD) : (bigSep Finset.univ fun c : Fin ((K (F := F)).nCore 0) => (P m).dn 0 d c) = bigSep Finset.univ fun c : Fin 2 => coreRes m d (SV m d) c := rfl

/-- The reshaped line is the thresholds repeated. -/
theorem repeated (d : Dev nD) : (at_ d main_v2 ↦{fullShare}
      (fun i => (rfl : main_v1.ty.elt = main_v2.ty.elt) ▸ shapeCast main_v2.ty.shape
        ((broadcastInDim S11x16 ![0] bcast_S11_S11x16_0 (m (tLoc d) : (⟨S11, .f32⟩ : BufTy).Contents (Elt F)) : (⟨S11x16, .f32⟩ : BufTy).Contents (Elt F)) : main_v1.ty.Contents (Elt F))
        shapeCasts_S11x16_S176 i : main_v2.ty.Contents (Elt F)) : sProp 𝕄)
    = (rLoc d ↦{fullShare} RM m d) := rfl

/-- The copied array. -/
theorem copied (d : Dev nD) : (at_ d main_v4 ↦{fullShare} (id (PV m d : (⟨S16777216, .i32⟩ : BufTy).Contents (Elt F)) : (⟨S16777216, .i32⟩ : BufTy).Contents (Elt F)) : sProp 𝕄)
    = (oLoc d ↦{fullShare} PV m d) := rfl

/-- The two regions' starts and ends, written out. -/
theorem reg0_pre (d : Dev nD) : (reg0 m).pre d
    = iprop((tLoc d ↦{fullShare} m (tLoc d)) ∗ (xLoc d ↦{fullShare} m (xLoc d)) ∗ (pLoc d ↦{fullShare} m (pLoc d)) ∗ owing d 0) := rfl
theorem reg0_post (d : Dev nD) : (reg0 m).post d
    = iprop((tLoc d ↦{fullShare} m (tLoc d)) ∗ (xLoc d ↦{fullShare} m (xLoc d)) ∗ (pLoc d ↦{fullShare} PV m d) ∗ owing d 0) := rfl
theorem reg2_pre (d : Dev nD) : (reg2 m).pre d = iprop((sLoc d ↦{fullShare} SV m d) ∗ (oLoc d ↦{fullShare} PV m d) ∗ owing d 1) := rfl
theorem reg2_post (d : Dev nD) : (reg2 m).post d = iprop((sLoc d ↦{fullShare} SV m d) ∗ (oLoc d ↦{fullShare} OV m d) ∗ owing d 1) := rfl

/-- What `@main` leaves the claim: the arguments as they were, the counts. -/
abbrev FIN (d : Dev nD) : sProp 𝕄 :=
  iprop((xLoc d ↦{fullShare} m (xLoc d)) ∗ (tLoc d ↦{fullShare} m (tLoc d)) ∗ oLoc d ↦{fullShare} OV m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, hR0⟩ := tcSt_owing (F := F) d 0
  obtain ⟨R1, hR1⟩ := tcSt_owing (F := F) d 1
  unfold SparseCore.Cfg.tcRes SparseCore.Cfg.tcEnd
  rw [arrays_eq]
  simp only [main, wp_bind, wp_pure]
  iintro ⟨#Hctx, Hst, ⟨Hb, ⟨Hx, Ht, Hp, Hw, Hr, Hs, Ho⟩, Hts, -⟩, ⟨HG0, HG1⟩⟩
  ihave #Hlev := ((K (F := F)).ctx_levAts κ) $$ Hctx
  -- the counting region
  ihave Hst := (Entails.of_eq hR0) $$ Hst
  icases Hst with ⟨Hd, HR⟩
  iapply (region_step m (reg0 m) d)
  isplitr [Hb Hx Ht Hp Hd HG0]
  rotate_left
  · isplitl [Hb]; · iexact Hb
    isplitl [Hx Ht Hp Hd]
    · iapply (Entails.of_eq (reg0_pre m d).symm)
      isplitl [Ht]; · iexact Ht
      isplitl [Hx]; · iexact Hx
      isplitl [Hp] <;> iassumption
    isplitr; · iexact Hlev
    iexact HG0
  iintro ⟨Hb, H⟩
  ihave H := (Entails.of_eq (reg0_post m d)) $$ H
  icases H with ⟨Ht, Hx, Hp, Hd⟩
  ihave Hst := (Entails.of_eq hR0.symm) $$ [Hd HR]
  · isplitl [Hd] <;> iassumption
  -- the thresholds repeated, in one line
  iapply (unary_step m d (x := main_arg1) (y := main_v1) (by decide) _ _ _ (m (tLoc d)) (m (wLoc d)))
  isplitr [Hb Ht Hw]
  rotate_left
  · isplitl [Hb]; · iexact Hb
    isplitl [Ht] <;> iassumption
  iintro ⟨Hb, Ht, Hw⟩
  iapply (reshape_step m d (x := main_v1) (y := main_v2) (by decide) _ _ _ _ _ (m (rLoc d)))
  isplitr [Hb Hw Hr]
  rotate_left
  · isplitl [Hb]; · iexact Hb
    isplitl [Hw] <;> iassumption
  iintro ⟨Hb, Hw, Hr⟩
  ihave Hr := (Entails.of_eq (repeated m d)) $$ Hr
  -- the SparseCore call
  ihave H := (call_cores m d (m (sLoc d))).1 $$ [Hx Hr Hs]
  · isplitl [Hx]; · iexact Hx
    isplitl [Hr] <;> iassumption
  icases H with ⟨Hkeep, Hst0⟩
  iapply ((K (F := F)).wp_run (D (F := F)) 𝒱 (EH := EH) (P := P m) κ d 0) $$ [-]
  isplitr; · iexact Hctx
  isplitl [Hst]; · iexact Hst
  isplitl [Hst0]; · rw [st_eq]; iexact Hst0
  iintro ⟨Hst, Hdn⟩
  ihave Hst := (Entails.of_eq (show (K (F := F)).tcSt EH d ((0 : Fin 1).val + 1) = (K (F := F)).tcSt EH d 1 from rfl)) $$ Hst
  ihave Hdn := (Entails.of_eq (dn_eq m d)) $$ Hdn
  ihave H := (call_cores m d (SV m d)).2 $$ [Hkeep Hdn]
  · isplitl [Hkeep] <;> iassumption
  icases H with ⟨Hx, Hr, Hs⟩
  -- the copy
  iapply (unary_step m d (x := main_v0) (y := main_v4) (by decide) _ _ _ (PV m d) (m (oLoc d)))
  isplitr [Hb Hp Ho]
  rotate_left
  · isplitl [Hb]; · iexact Hb
    isplitl [Hp] <;> iassumption
  iintro ⟨Hb, Hp, Ho⟩
  ihave Ho := (Entails.of_eq (copied m d)) $$ Ho
  -- the merging region
  ihave Hst := (Entails.of_eq hR1) $$ Hst
  icases Hst with ⟨Hd, HR⟩
  iapply (region_step m (reg2 m) d)
  isplitr [Hb Hs Ho Hd HG1]
  rotate_left
  · isplitl [Hb]; · iexact Hb
    isplitl [Hs Ho Hd]
    · iapply (Entails.of_eq (reg2_pre m d).symm)
      isplitl [Hs]; · iexact Hs
      isplitl [Ho] <;> iassumption
    isplitr; · iexact Hlev
    iexact HG1
  iintro ⟨Hb, H⟩
  ihave H := (Entails.of_eq (reg2_post m d)) $$ H
  icases H with ⟨Hs, Ho, Hd⟩
  ihave Hst := (Entails.of_eq hR1.symm) $$ [Hd HR]
  · isplitl [Hd] <;> iassumption
  imodintro
  isplitl [Hst]; · iexact Hst
  isplitr [Hb Hts]
  · isplitl [Hx]; · iexact Hx
    isplitl [Ht] <;> iassumption
  isplitl [Hb] <;> iassumption

/-! ## The run -/

/-- What a device's memory holds at the end. -/
def fq (d : Dev nD) (s' : Phys nD τ sig (Elt F)) : Prop :=
  s'.mem.mem (xLoc d) = m (xLoc d) ∧ s'.mem.mem (tLoc d) = m (tLoc d) ∧ s'.mem.mem (oLoc d) = OV m d

theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  have h : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  refine (persistent_entails_right h).trans ?_
  iintro ⟨H, ⟨-, HSI⟩⟩
  isplitl [H] <;> iassumption

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (agree (m (xLoc d)) s') $$ [Hx HSI]
  · isplitl [Hx] <;> iassumption
  icases H with ⟨%hx, HSI⟩
  ihave H := (agree (m (tLoc d)) s') $$ [Ht HSI]
  · isplitl [Ht] <;> iassumption
  icases H with ⟨%ht, HSI⟩
  ihave H := (agree (OV m d) s') $$ [Ho HSI]
  · isplitl [Ho] <;> iassumption
  icases H with ⟨%ho, HSI⟩
  ipureintro; exact ⟨hx, ht, ho⟩

/-- The run's outcome: the arguments as they were, the result at the counts, every semaphore at zero. -/
def QC : PUnit × MemSt nD τ sig (Elt F) → Prop := fun r =>
  (∀ c : Dev nD, r.2.mem (xLoc c) = m (xLoc c) ∧ r.2.mem (tLoc c) = m (tLoc c) ∧ r.2.mem (oLoc c) = OV m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Main

end Cert.Proof.Count

end
-- ==== Proof.Same.lean ====
/-
  The kernel as compiled and the ideal program are one text under two names: their body tables, host programs and
  threads are equal, over any float values.
-/
module

public import proofs.«01_k».proof.Proof.Main
public import proofs.«01_k».proof.Proof.Gen.Kernel

@[expose] public section

noncomputable section

namespace Cert.Proof.Count

open Idealize.ShloMosaic Idealize.SL.Sem

variable {F : FTy → Type} [FloatOps F]

/-- The kernels' bodies, label by label on each kind of processor; -/
theorem same_bodies : Cert.Kernel.defs₀ (F := F) = Cert.KernelIdeal.defs₀ (F := F) := by
  funext p ℓ a
  rcases p with _ | c | ⟨c, s⟩
  all_goals
    match ℓ with
    | 0 => rfl
    | 1 => rfl
    | 2 => rfl

/-- with the calls' machinery over them; -/
theorem same_defs : Cert.Kernel.defs (F := F) = Cert.KernelIdeal.defs (F := F) :=
  congrArg (fun X => (Cert.KernelIdeal.sc (F := F)).defs (Pipeline.defs (Cert.KernelIdeal.pcfgs (F := F)) X)) (same_bodies (F := F))

/-- the host's program; -/
theorem same_main : Cert.Kernel.main (F := F) = Cert.KernelIdeal.main (F := F) := rfl

/-- and what every thread runs. -/
theorem same_threads : Cert.Kernel.threads (F := F) = Cert.KernelIdeal.threads (F := F) :=
  congrArg (fun X => (Cert.KernelIdeal.sc (F := F)).threads X) (same_main (F := F))

/-- So the run proved of the one is a run of the other. -/
theorem run_compiled [∀ e, Nonempty (Elt F e)] (m : (ℓ : Loc Cert.Kernel.nD Cert.Kernel.τ Cert.Kernel.sig) → Buf (Elt F) ℓ)
    (ρ : Dev Cert.Kernel.nD → PrngReg) :
    θ_run (Cert.Kernel.defs (F := F)) (Cert.Kernel.threads (F := F)) ⟨m, fun _ => 0, ρ⟩ (QC m) := by
  have h := run_main (F := F) m ρ
  rw [← same_defs, ← same_threads] at h
  exact h

end Cert.Proof.Count

end
-- ==== Proof.Reference.lean ====
/-
  The reference's term, read at one score: the sum over the eleven thresholds of the widened comparisons is the count
  the kernel leaves.
-/
module

public import proofs.«01_k».proof.Proof.Value
public import Idealize.ShloMosaic.PureOps.Reduce
public import Idealize.ShloMosaic.PureOps.Ideal

@[expose] public section

noncomputable section

namespace Cert.Proof.Count

open Idealize.ShloMosaic

/-- Eleven words folded are the words added up in order. -/
theorem fold_eleven (f : Fin 11 → BitVec 32) : (Finset.univ : Finset (Fin 11)).fold IntOp.addi 0#32 f
    = 0#32 + f 0 + f 1 + f 2 + f 3 + f 4 + f 5 + f 6 + f 7 + f 8 + f 9 + f 10 := by
  have e : (Finset.univ : Finset (Fin 11)).fold IntOp.addi 0#32 f
      = f 0 + (f 1 + (f 2 + (f 3 + (f 4 + (f 5 + (f 6 + (f 7 + (f 8 + (f 9 + (f 10 + 0#32)))))))))) := rfl
  rw [e]
  ac_rfl

/-- A threshold lies below a score where the score lies above the threshold. -/
theorem below_above (x t : Ideal .f32) : (FloatOps.cmpf .olt t x : BitVec 1) = FloatOps.cmpf .ogt x t := rfl

variable {N : Nat}

/-- The scores as a matrix of one row, -/
theorem one_row (hN : N ≠ 1) (x : (⟨1, ![N]⟩ : Shape).Idx → Ideal .f32) (h : (⟨1, ![N]⟩ : Shape).BroadcastsInDim ⟨2, ![1, N]⟩ ![1])
    (k : (⟨2, ![1, N]⟩ : Shape).Idx) : broadcastInDim ⟨2, ![1, N]⟩ ![1] h x k = x (fun | 0 => k 1) :=
  congrArg x (funext fun (a : Fin 1) => match a with | 0 => dif_neg hN)
/-- and its row eleven times. -/
theorem repeat_rows (hN : N ≠ 1) (z : (⟨2, ![1, N]⟩ : Shape).Idx → Ideal .f32) (h : (⟨2, ![1, N]⟩ : Shape).BroadcastsInDim ⟨2, ![11, N]⟩ ![0, 1])
    (k : (⟨2, ![11, N]⟩ : Shape).Idx) : broadcastInDim ⟨2, ![11, N]⟩ ![0, 1] h z k = z (fun | 0 => (⟨0, Nat.one_pos⟩ : Fin 1) | 1 => k 1) :=
  congrArg z (funext fun (a : Fin 2) => match a with | 0 => rfl | 1 => dif_neg hN)

/-- The comparisons of every threshold with every score, widened and added up over the thresholds: at a score, its count. -/
theorem column_count (hN : N ≠ 1) (t : (⟨1, ![11]⟩ : Shape).Idx → Ideal .f32) (x : (⟨1, ![N]⟩ : Shape).Idx → Ideal .f32)
    (h1 : (⟨1, ![11]⟩ : Shape).BroadcastsInDim ⟨2, ![11, 1]⟩ ![0]) (h2 : (⟨1, ![N]⟩ : Shape).BroadcastsInDim ⟨2, ![1, N]⟩ ![1])
    (h3 : (⟨2, ![11, 1]⟩ : Shape).BroadcastsInDim ⟨2, ![11, N]⟩ ![0, 1]) (h4 : (⟨2, ![1, N]⟩ : Shape).BroadcastsInDim ⟨2, ![11, N]⟩ ![0, 1])
    (hw : 1 < 32) (hr : (⟨2, ![11, N]⟩ : Shape).ReducesTo [0] ⟨1, ![N]⟩) (hr' : (⟨2, ![11, N]⟩ : Shape).Reduces [0] ⟨1, ![N]⟩)
    (hu : 0 < (⟨0, ![]⟩ : Shape).numel) (y : (⟨1, ![N]⟩ : Shape).Idx) :
    Host.reduce IntOp.addi (extui 32 (cmpf .olt (broadcastInDim ⟨2, ![11, N]⟩ ![0, 1] h3 (broadcastInDim ⟨2, ![11, 1]⟩ ![0] h1 t))
        (broadcastInDim ⟨2, ![11, N]⟩ ![0, 1] h4 (broadcastInDim ⟨2, ![1, N]⟩ ![1] h2 x) : FVec Ideal ⟨2, ![11, N]⟩ .f32)) hw) (constantI ⟨0, ![]⟩ 32 0#32) hr hu y
      = cnt (fun j => t (fun | 0 => j)) (x y) := by
  rw [Host.reduce_eq_fold_single IntOp.addi _ _ hr hr' hu]
  refine (fold_eleven _).trans ?_
  have key : ∀ j : Fin 11, (extui 32 (cmpf .olt (broadcastInDim ⟨2, ![11, N]⟩ ![0, 1] h3 (broadcastInDim ⟨2, ![11, 1]⟩ ![0] h1 t))
        (broadcastInDim ⟨2, ![11, N]⟩ ![0, 1] h4 (broadcastInDim ⟨2, ![1, N]⟩ ![1] h2 x) : FVec Ideal ⟨2, ![11, N]⟩ .f32)) hw ∘ hr'.lift y) j
      = hit (x y) (t (fun | 0 => j)) := by
    intro j
    have et : broadcastInDim ⟨2, ![11, N]⟩ ![0, 1] h3 (broadcastInDim ⟨2, ![11, 1]⟩ ![0] h1 t) (hr'.lift y j) = t (fun | 0 => j) := by
      refine congrArg t (funext fun (a : Fin 1) => match a with | 0 => ?_)
      rfl
    have ex : broadcastInDim ⟨2, ![11, N]⟩ ![0, 1] h4 (broadcastInDim ⟨2, ![1, N]⟩ ![1] h2 x) (hr'.lift y j) = x y := by
      rw [repeat_rows hN, one_row hN]
      exact congrArg x (funext fun (a : Fin 1) => match a with | 0 => rfl)
    show (FloatOps.cmpf .olt (broadcastInDim ⟨2, ![11, N]⟩ ![0, 1] h3 (broadcastInDim ⟨2, ![11, 1]⟩ ![0] h1 t) (hr'.lift y j))
      (broadcastInDim ⟨2, ![11, N]⟩ ![0, 1] h4 (broadcastInDim ⟨2, ![1, N]⟩ ![1] h2 x) (hr'.lift y j) : Ideal .f32) : BitVec 1).setWidth 32 = _
    rw [et, ex]
    rfl
  simp only [key]
  rfl

end Cert.Proof.Count

end
-- ==== Proof.lean ====
/-
  The proof of `Cert.Claim`. The kernel's run (Proof/Main.lean) is proved once, over any float values, with the counts
  it leaves; both frames of the kernel are that run with the counts dropped. The reference is a line of host
  operations, and at the ideal instance its result is the same counts (Proof/Reference.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.Reference
public import Idealize.ShloMosaic.Adequacy
public import Idealize.ShloMosaic.Init

@[expose] public section

noncomputable section

namespace Cert.Proof

open Idealize.ShloMosaic Idealize.SL.Sem

/-- The kernel as compiled, at the float words. -/
theorem frame_kernel : Cert.quiescent_Kernel := fun m ρ _ =>
  (θ_run Cert.Kernel.defs _ _).mono (fun _ h => ⟨fun c => ⟨(h.1 c).1, (h.1 c).2.1⟩, h.2⟩) (Count.run_compiled (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Count.run_main (F := Ideal) m ρ)

/-- The reference: a line of host operations, without a semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both leave, at each score, the number of thresholds below it. -/
theorem algebraic : Cert.algebraic_KernelIdeal_ReferenceIdeal := by
  intro m ρ m' ρ' _ hagree
  refine ⟨Count.OV m, ?_, ?_⟩
  · exact (θ_run Cert.KernelIdeal.defs _ _).mono (fun _ h c => ⟨(h.1 c).2.2, (h.1 c).1, (h.1 c).2.1⟩) (Count.run_main (F := Ideal) m ρ)
  · refine (θ_run Cert.ReferenceIdeal.defs _ _).mono (fun _ h c => ⟨(h c).1.trans ?_, (h c).2⟩) (Cert.ReferenceIdeal.Value.run (F := Ideal) m' ρ')
    rw [(hagree c).1, (hagree c).2]
    funext y
    exact Count.column_count (by decide) _ _ _ _ _ _ _ _ (by decide) _ y

theorem claim : Cert.Claim :=
  ⟨Cert.Kernel.Gen.facts, Cert.KernelIdeal.Gen.facts, Cert.ReferenceIdeal.Gen.facts,
    frame_kernel, frame_ideal, frame_reference, trivial, algebraic⟩

end Cert.Proof

end
